-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S4096x1024 : Shape := ⟨2, ![4096, 1024]⟩
abbrev S4x1024x512 : Shape := ⟨3, ![4, 1024, 512]⟩
abbrev S3 : Shape := ⟨1, ![3]⟩
abbrev S_ : Shape := ⟨0, ![]⟩
abbrev S1x1024x512 : Shape := ⟨3, ![1, 1024, 512]⟩
abbrev S1 : Shape := ⟨1, ![1]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S512x1024, .bf16⟩
  | .local _ .vmem, ⟨2, _⟩ => ⟨S4096x1024, .f32⟩
  | .local _ .vmem, ⟨3, _⟩ => ⟨S4x1024x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v37 : BitVec 32 := Scalar.muli v24 c1_i32_29
  let v38 : BitVec 32 := Scalar.addi c0_i32_30 v37
  v38.toNat
def k0_off1 (d0 : Dev nD) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.subi v2 c0_i32_35
  let c4_i32_36 : BitVec 32 := 4#32
  let c0_i32_37 : BitVec 32 := 0#32
  let v48 : BitVec 1 := Scalar.cmpi .eq c4_i32_36 c0_i32_37
  let c1_i32_38 : BitVec 32 := 1#32
  let v49 : BitVec 32 := Scalar.select v48 c1_i32_38 c4_i32_36
  let v50 : BitVec 32 := Scalar.remsi v47 v49
  let c0_i32_40 : BitVec 32 := 0#32
  let v52 : BitVec 1 := Scalar.cmpi .slt v50 c0_i32_40
  let c0_i32_41 : BitVec 32 := 0#32
  let v53 : BitVec 1 := Scalar.cmpi .slt v49 c0_i32_41
  let v54 : BitVec 1 := Scalar.xori v52 v53
  let c0_i32_39 : BitVec 32 := 0#32
  let v51 : BitVec 1 := Scalar.cmpi .ne v50 c0_i32_39
  let v55 : BitVec 1 := Scalar.andi v54 v51
  let v56 : BitVec 32 := Scalar.addi v50 v49
  let v57 : BitVec 32 := Scalar.select v55 v56 v50
  let c1024_i32 : BitVec 32 := 1024#32
  let v61 : BitVec 32 := Scalar.muli v57 c1024_i32
  let v62 : Index := Scalar.indexCast v61
  let c0_45 : Index := 0#32
  ![v62.toNat, 0]
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_69 : BitVec 32 := 1#32
  let v78 : BitVec 32 := Scalar.muli v24 c1_i32_69
  let v79 : BitVec 32 := Scalar.addi c0_i32_70 v78
  v79.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_109 : BitVec 32 := 1#32
  let v119 : BitVec 32 := Scalar.muli v24 c1_i32_109
  let v120 : BitVec 32 := Scalar.addi c0_i32_110 v119
  v120.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Slots.lean ====
/-
The landing buffer, slot by slot.

The kernel keeps the four row blocks it meets in one buffer of shape 4 × 1024 × 512, one block to a slot.  The transfers
name a slot through a squeezed slice of the buffer, the vector loads and the one vector store through a rectangle of the
whole buffer.  This module relates the two: the slots are disjoint and make up the buffer, and a load through a slot's
rectangle reads what the slice reads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.MemrefSat
public import Idealize.ShloMosaic.Lib.Ring
public import Idealize.ShloMosaic.Lib.Tactic

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the ring's cells; a duty is named by a truth value, since no cell has more than two. -/
abbrev RingU : Type := URounds (GSem nD τ sig) Bool
/-- Beside them the rounds of the staging cells, which the pipeline's launch keeps. -/
abbrev GhostU : Type := UR sig nD τ × RingU

local notation "𝕄" => MT nD τ sig Unit (Elt F) ℕ GhostU ℕ

abbrev EP : Emb (UR sig nD τ) (MT nD τ sig Unit (Elt F) ℕ GhostU ℕ) := embL
abbrev ER : Emb RingU (MT nD τ sig Unit (Elt F) ℕ GhostU ℕ) := embR

/-! ## The slots -/

/-- The landing buffer. -/
abbrev landM : Memref sig .tc .vmem S4x1024x512 .bf16 := Memref.whole cc0_scratch0

theorem slot_inb (h : Fin 4) : ∀ a, (![h.val, 0, 0] : Fin 3 → ℕ) a + S1x1024x512.size a ≤ S4x1024x512.size a := by
  revert h; decide

/-- The rectangle of slot `h`: its one index on the leading axis, all of the other two. -/
abbrev slotR (h : Fin 4) : Rect S4x1024x512 := Rect.unit (s := S4x1024x512) ![h.val, 0, 0] S1x1024x512.size (slot_inb h)

/-- Slot `h` as a transfer names it, a block of 1024 × 512. -/
abbrev slotM (h : Fin 4) : Memref sig .tc .vmem S1024x512 .bf16 :=
  (landM.slice (slotR h) (fun _ => rfl)).squeeze S1024x512 squeezes_S1x1024x512_S1024x512

/-- The elements of slot `h`. -/
abbrev slotSet (h : Fin 4) : Finset (cc0_scratch0 : Ref sig .tc).ty.shape.Idx := (slotM h).view.set

theorem slotSet_eq (h : Fin 4) : slotSet h = (landM.view.slice (slotR h)).set := View.set_reshape _ _

theorem slotSet_disjoint (h h' : Fin 4) (hn : h ≠ h') : Disjoint (slotSet h) (slotSet h') := by
  rw [slotSet_eq, slotSet_eq]
  refine View.disjoint_slice (Rect.unit_disjoint (0 : Fin 3) ?_)
  have hv : h.val ≠ h'.val := fun e => hn (Fin.ext e)
  show h.val + 1 ≤ h'.val ∨ h'.val + 1 ≤ h.val
  omega

theorem slotSet_cover : (Finset.univ : Finset (Fin 4)).biUnion slotSet = Finset.univ := by
  ext i
  simp only [Finset.mem_biUnion, Finset.mem_univ, true_and, iff_true]
  have h0 : (i (0 : Fin 3)).val < 4 := (i (0 : Fin 3)).isLt
  refine ⟨⟨(i (0 : Fin 3)).val, h0⟩, ?_⟩
  rw [slotSet_eq, View.set_slice, Finset.mem_map]
  refine ⟨i, ?_, rfl⟩
  rw [Rect.mem_set_unit]
  intro a
  have hi := (i a).isLt
  fin_cases a
  · exact ⟨le_refl _, Nat.lt_succ_self _⟩
  · exact ⟨Nat.zero_le _, (Nat.zero_add 1024).symm ▸ hi⟩
  · exact ⟨Nat.zero_le _, (Nat.zero_add 512).symm ▸ hi⟩

/-- What the kernel's loads of slot `h` touch lies in the slot, -/
theorem slot_load_subset (h : Fin 4) : landM.view.setOn (slotR h).toLoadRect.set ⊆ slotSet h := by
  rw [slotSet_eq, View.set_slice]; exact subset_of_eq rfl

/-- and so does what its store touches. -/
theorem slot_store_subset (h : Fin 4) : (landM.access (slotR h)).setOn Finset.univ ⊆ slotSet h := by
  rw [slotSet_eq]; exact subset_of_eq rfl

/-- A load of slot `h`, cast to a block, is the block read through the slot's slice. -/
theorem slot_cast_load (h : Fin 4) (f : (cc0_scratch0 : Ref sig .tc).ty.Contents (Elt F)) :
    shapeCast S1024x512 (landM.view.readAt (Elt F) (slotR h).toLoadRect f) shapeCasts_S1x1024x512_S1024x512
      = (slotM h).view.read (Elt F) f := rfl

/-- A block stored to slot `h`, cast to the slot's shape, is the block read back through the slot's slice. -/
theorem slot_read_store (h : Fin 4) (f : (cc0_scratch0 : Ref sig .tc).ty.Contents (Elt F)) (w : Vec F S1024x512 .bf16) :
    (slotM h).view.read (Elt F) ((landM.access (slotR h)).write (Elt F) f (k0_pay2 w) Finset.univ) = w := by
  rw [← slot_cast_load]
  have e : landM.view.readAt (Elt F) (slotR h).toLoadRect ((landM.access (slotR h)).write (Elt F) f (k0_pay2 w) Finset.univ) = k0_pay2 w :=
    View.read_write_univ (v := landM.access (slotR h)) f (k0_pay2 w)
  rw [e]
  exact (shapeCast_shapeCast _ _ _).trans (shapeCast_self _ _)

/-! ## Slots held -/

variable (c : Dev nD)

/-- Slot `h` of device `c` held at share `q`, reading the block `X`. -/
def slotAt (h : Fin 4) (q : PosShare TreeShare) (X : Vec F S1024x512 .bf16) : sProp 𝕄 :=
  owns (c : Thread nD τ) (slotM h) q X

/-- Slot `h` of device `c` held whole, whatever is in it. -/
def slotAny (h : Fin 4) : sProp 𝕄 :=
  iprop(∃ f : (cc0_scratch0 : Ref sig .tc).ty.Contents (Elt F), ((c : Thread nD τ).loc cc0_scratch0) ↦[slotSet h]{fullShare} f)

omit [FloatOps F] in
instance slotAt_storable (h : Fin 4) (q) (X : Vec F S1024x512 .bf16) : BI.Storable (upEmb : UEmb _ 𝕄) (slotAt c h q X) := by
  unfold slotAt; infer_instance
omit [FloatOps F] in
instance slotAny_storable (h : Fin 4) : BI.Storable (upEmb : UEmb _ 𝕄) (slotAny (F := F) c h) := by
  unfold slotAny; infer_instance

omit [FloatOps F] in
theorem slotAt_halves (h : Fin 4) (X : Vec F S1024x512 .bf16) :
    (slotAt c h fullShare X : sProp 𝕄) ⊢ iprop(slotAt c h fullShare.left X ∗ slotAt c h fullShare.right X) :=
  (owns_halves _ _ _ X).1

omit [FloatOps F] in
theorem slotAt_join (h : Fin 4) (X : Vec F S1024x512 .bf16) :
    iprop(slotAt c h fullShare.left X ∗ slotAt c h fullShare.right X) ⊢ (slotAt c h fullShare X : sProp 𝕄) :=
  (owns_halves _ _ _ X).2

omit [FloatOps F] in
theorem slotAt_any (h : Fin 4) (X : Vec F S1024x512 .bf16) : (slotAt c h fullShare X : sProp 𝕄) ⊢ slotAny c h := by
  unfold slotAt owns slotAny
  iintro ⟨%f, -, H⟩
  iexists f; iexact H

/-- A conjunction over the slots, slot by slot. -/
theorem bigSep_slots {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

omit [FloatOps F] in
/-- The buffer, held whole, is its four slots; -/
theorem slots_split (f : (cc0_scratch0 : Ref sig .tc).ty.Contents (Elt F)) :
    (((c : Thread nD τ).loc cc0_scratch0) ↦{fullShare} f : sProp 𝕄)
      ⊢ iprop(slotAny c 0 ∗ slotAny c 1 ∗ slotAny c 2 ∗ slotAny c 3) := by
  rw [Ring.pointsTo_blocks (ℓ := (c : Thread nD τ).loc cc0_scratch0) slotSet slotSet_disjoint slotSet_cover, bigSep_slots]
  unfold slotAny
  iintro ⟨H0, H1, H2, H3⟩
  isplitl [H0]; · iexists f; iexact H0
  isplitl [H1]; · iexists f; iexact H1
  isplitl [H2]; · iexists f; iexact H2
  iexists f; iexact H3

omit [FloatOps F] in
/-- and its four slots, each at contents of its own, are the buffer. -/
theorem slots_join :
    iprop(slotAny c 0 ∗ slotAny c 1 ∗ slotAny c 2 ∗ slotAny c 3)
      ⊢ (iprop(∃ f : (cc0_scratch0 : Ref sig .tc).ty.Contents (Elt F), ((c : Thread nD τ).loc cc0_scratch0) ↦{fullShare} f) : sProp 𝕄) := by
  iintro ⟨H0, H1, H2, H3⟩
  unfold slotAny
  icases H0 with ⟨%f, H0⟩
  iapply (Ring.pointsTo_blocks_join_exists (ℓ := (c : Thread nD τ).loc cc0_scratch0) slotSet slotSet_disjoint slotSet_cover f)
  rw [bigSep_slots]
  isplitl [H0]; · iexists f; iexact H0
  isplitl [H1]; · iexact H1
  isplitl [H2]; · iexact H2
  iexact H3

end Cert.GatherProof

end
-- ==== Proof.Protocol.lean ====
/-
How the four devices keep out of each other's way.

The devices stand in a ring.  Each starts with its own row block in slot 0 of its landing buffer and makes three hops;
hop `h` copies slot `h` to slot `h + 1` of the device after it.  Before the first hop each device signals both
neighbours' barrier semaphore and waits for two units on its own.

A cell is a semaphore of one device, and each has one round:

* the barrier cell is paid by the device before (nothing is handed over) and by the device after, whose payment hands
  over that device's slots 1, 2 and 3, into which the hops will write;
* the send cell of hop `h` hands back the half of slot `h` that the transfer read;
* the receive cell of hop `h` hands over slot `h + 1`, holding the block of the device `h + 1` places before.
-/
module

public import proofs.«01_k».proof.Proof.Slots

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GhostU ℕ

variable (m : (ℓ : Loc nD τ sig) → Buf (Elt F) ℓ) (ρ : Dev nD → PrngReg)

/-! ## The ring -/

set_option backward.proofsInPublic true in
/-- The device after `c`, which `c` sends to. -/
def nxt (c : Dev nD) : Dev nD := ⟨(c.val + 1) % 4, Nat.mod_lt _ (by decide)⟩
set_option backward.proofsInPublic true in
/-- The device before `c`, which `c` receives from. -/
def prv (c : Dev nD) : Dev nD := ⟨(c.val + 3) % 4, Nat.mod_lt _ (by decide)⟩
set_option backward.proofsInPublic true in
/-- The device `h` places before `c`, whose block lands in slot `h` of `c`. -/
def back (c : Dev nD) (h : Fin 4) : Dev nD := ⟨(c.val + (4 - h.val)) % 4, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide
/-- A hop keeps a block's origin. -/
theorem back_hop (c : Dev nD) (h : Fin 3) : back (nxt c) h.succ = back c h.castSucc := by revert c h; decide

/-- The ring as a permutation of the devices. -/
def ring : Dev nD ≃ Dev nD := ⟨nxt, prv, prv_nxt, nxt_prv⟩

/-- The device a signal or a transfer of the kernel names: the first signal's is the one before, every other's the one
    after. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel

/-! ## The cells -/

theorem sem_inb (h : Fin 3) : ∀ a, (![h.val] : Fin 1 → ℕ) a + S1.size a ≤ S3.size a := by revert h; decide

/-- The barrier semaphore, which the devices share with whatever ran before, -/
abbrev barS : Sem sig := (SemArray.scalar (sig.barrier 0 rfl) : Sems sig S_).sem
/-- the semaphore hop `h` signals when its source has been read, -/
abbrev sndS (h : Fin 3) : DmaSem sig :=
  (((cc0_scratch1 : DmaSems sig S3).slice (Rect.unit (s := S3) ![h.val] S1.size (sem_inb h))).squeeze S_ squeezes_S1_S_).sem
/-- and the one it signals on the other device when its destination is written. -/
abbrev rcvS (h : Fin 3) : DmaSem sig :=
  (((cc0_scratch2 : DmaSems sig S3).slice (Rect.unit (s := S3) ![h.val] S1.size (sem_inb h))).squeeze S_ squeezes_S1_S_).sem

/-- A device's cells. -/
inductive Cell where
  | bar
  | snd (h : Fin 3)
  | rcv (h : Fin 3)
  deriving DecidableEq

/-- listed, -/
abbrev cellList : List Cell := [.bar, .snd 0, .snd 1, .snd 2, .rcv 0, .rcv 1, .rcv 2]

theorem mem_cellList (k : Cell) : k ∈ cellList := by
  rcases k with _ | h | h
  · decide
  · revert h; decide
  · revert h; decide

instance : Fintype Cell := ⟨⟨cellList, by decide⟩, mem_cellList⟩

/-- their semaphores, -/
abbrev Cell.sem : Cell → SemLoc sig
  | .bar => .reg barS
  | .snd h => .dma (sndS h)
  | .rcv h => .dma (rcvS h)

/-- and which cell, if any, a semaphore belongs to. -/
def cellAt (s : SemLoc sig) : Option Cell := cellList.find? fun k => decide (k.sem = s)

theorem cellAt_sem (k : Cell) : cellAt k.sem = some k := by revert k; decide

theorem Cell.sem_injective : Function.Injective Cell.sem := fun k k' h =>
  Option.some.inj ((cellAt_sem k).symm.trans ((congrArg cellAt h).trans (cellAt_sem k')))

/-- Cell `k` of device `c`. -/
abbrev kcell (ck : Dev nD × Cell) : GSem nD τ sig := ((ck.1 : Thread nD τ), ck.2.sem)

theorem kcell_injective : Function.Injective kcell := by
  rintro ⟨c, k⟩ ⟨c', k'⟩ h
  have hc : c = c' := congrArg (fun g : GSem nD τ sig => g.1.1) h
  have hk : k = k' := Cell.sem_injective (congrArg Prod.snd h)
  rw [hc, hk]

/-- What one transfer of a block credits. -/
abbrev N : ℕ := (slotM 0).view.dmaCredit
theorem N_pos : 0 < N := View.dmaCredit_pos _ (by decide)

/-! ## Contents -/

/-- The memory at launch, every semaphore counter at zero. -/
def s₀ : MemSt nD τ sig (Elt F) := ⟨m, fun _ => 0, ρ⟩

/-- Device `c`'s row block of the left operand, as its staging buffer holds it, -/
def aBlk (c : Dev nD) : Vec F S1024x512 .bf16 :=
  (win0_0.blk (0 : Fin 1)).view.read (Elt F) ((s₀ m ρ).mem ((c : Thread nD τ).loc main_arg0))
/-- and its copy of the right operand. -/
def bBlk (c : Dev nD) : Vec F S512x1024 .bf16 :=
  (win0_1.blk (0 : Fin 1)).view.read (Elt F) ((s₀ m ρ).mem ((c : Thread nD τ).loc main_arg1))

/-! ## The schedule -/

/-- What the device after `c` hands `c` at the barrier: its slots 1, 2 and 3. -/
def barPay (c : Dev nD) : sProp 𝕄 := iprop(slotAny (nxt c) 1 ∗ slotAny (nxt c) 2 ∗ slotAny (nxt c) 3)
/-- What the send cell of hop `h` hands back to `c`: the half of slot `h` lent to the transfer. -/
def sndPay (c : Dev nD) (h : Fin 3) : sProp 𝕄 := slotAt c h.castSucc fullShare.right (aBlk m ρ (back c h.castSucc))
/-- What the receive cell of hop `h` hands `c`: slot `h + 1`, filled. -/
def rcvPay (c : Dev nD) (h : Fin 3) : sProp 𝕄 := slotAt c h.succ fullShare (aBlk m ρ (back c h.succ))

/-- The duties of a cell's round, -/
def dutiesOf : Option Cell → Finset Bool
  | none => ∅
  | some .bar => Finset.univ
  | some _ => {false}
/-- what each adds to the counter, -/
def amountOf : Option Cell → ℕ
  | some .bar => 1
  | _ => N
/-- and what it hands over; at the barrier, duty `true` is the device after's and `false` the device before's. -/
def payloadOf (c : Dev nD) : Option Cell → Bool → sProp 𝕄
  | some .bar, true => barPay c
  | some (.snd h), _ => sndPay m ρ c h
  | some (.rcv h), _ => rcvPay m ρ c h
  | _, _ => iprop(emp)

/-- The schedule of the ring's cells: one round each. -/
def sched : Rounds.Schedule (GSem nD τ sig) Bool 𝕄 where
  duties g r := if r = 0 ∧ g.1.2 = .tc then dutiesOf (cellAt g.2) else ∅
  unitless _ := False
  amount g _ _ := amountOf (cellAt g.2)
  payload g _ d := payloadOf m ρ g.1.1 (cellAt g.2) d
  amount_pos g _ _ _ := by
    unfold amountOf; split
    · exact Nat.one_pos
    · exact N_pos

omit [FloatOps F] in
instance payloadOf_storable (c : Dev nD) (k : Option Cell) (d : Bool) :
    BI.Storable (upEmb : UEmb _ 𝕄) (payloadOf (F := F) m ρ c k d) := by
  unfold payloadOf barPay sndPay rcvPay
  split <;> infer_instance

omit [FloatOps F] in
instance sched_payload_storable (g : GSem nD τ sig) (r : ℕ) (d : Bool) :
    BI.Storable (upEmb : UEmb _ 𝕄) ((sched (F := F) m ρ).payload g r d) :=
  payloadOf_storable m ρ g.1.1 (cellAt g.2) d

section Sched
variable (c : Dev nD)

omit [FloatOps F] in
theorem sched_duties (k : Cell) : (sched (F := F) m ρ).duties (kcell (c, k)) 0 = dutiesOf (some k) := by
  dsimp only [sched]; rw [if_pos ⟨rfl, rfl⟩, cellAt_sem]
omit [FloatOps F] in
theorem sched_later (g : GSem nD τ sig) (r : ℕ) (hr : 1 ≤ r) : (sched (F := F) m ρ).duties g r = ∅ := by
  dsimp only [sched]; rw [if_neg fun h => by omega]
omit [FloatOps F] in
theorem sched_amount (k : Cell) (d : Bool) : (sched (F := F) m ρ).amount (kcell (c, k)) 0 d = amountOf (some k) := by
  dsimp only [sched]; rw [cellAt_sem]
omit [FloatOps F] in
theorem sched_payload (k : Cell) (d : Bool) :
    (sched (F := F) m ρ).payload (kcell (c, k)) 0 d = payloadOf m ρ c (some k) d := by
  dsimp only [sched]; rw [cellAt_sem]
omit [FloatOps F] in
theorem sched_expect (k : Cell) :
    (sched (F := F) m ρ).expect (kcell (c, k)) 0 = (dutiesOf (some k)).card * amountOf (some k) := by
  unfold Schedule.expect Schedule.amountOf
  rw [sched_duties, Finset.sum_congr rfl fun d _ => sched_amount m ρ c k d, Finset.sum_const, smul_eq_mul]

omit [FloatOps F] in
theorem expect_bar : (sched (F := F) m ρ).expect (kcell (c, .bar)) 0 = 2 := sched_expect m ρ c .bar
omit [FloatOps F] in
theorem expect_snd (h : Fin 3) : (sched (F := F) m ρ).expect (kcell (c, .snd h)) 0 = N :=
  (sched_expect m ρ c (.snd h)).trans (Nat.one_mul _)
omit [FloatOps F] in
theorem expect_rcv (h : Fin 3) : (sched (F := F) m ρ).expect (kcell (c, .rcv h)) 0 = N :=
  (sched_expect m ρ c (.rcv h)).trans (Nat.one_mul _)

omit [FloatOps F] in
/-- All that the barrier's round hands over, -/
theorem round_bar : bigSep ((sched (F := F) m ρ).duties (kcell (c, .bar)) 0 \ ∅)
    (fun d => (sched (F := F) m ρ).payload (kcell (c, .bar)) 0 d) ⊢ barPay c := by
  rw [Finset.sdiff_empty, sched_duties, bigSep_congr fun d _ => sched_payload m ρ c .bar d]
  exact bigSep_elim (i := true) (Finset.mem_univ _)
omit [FloatOps F] in
/-- a send cell's, -/
theorem round_snd (h : Fin 3) : bigSep ((sched (F := F) m ρ).duties (kcell (c, .snd h)) 0 \ ∅)
    (fun d => (sched (F := F) m ρ).payload (kcell (c, .snd h)) 0 d) ⊢ sndPay m ρ c h := by
  rw [Finset.sdiff_empty, sched_duties, bigSep_congr fun d _ => sched_payload m ρ c (.snd h) d]
  exact bigSep_elim (i := false) (Finset.mem_singleton_self _)
omit [FloatOps F] in
/-- and a receive cell's. -/
theorem round_rcv (h : Fin 3) : bigSep ((sched (F := F) m ρ).duties (kcell (c, .rcv h)) 0 \ ∅)
    (fun d => (sched (F := F) m ρ).payload (kcell (c, .rcv h)) 0 d) ⊢ rcvPay m ρ c h := by
  rw [Finset.sdiff_empty, sched_duties, bigSep_congr fun d _ => sched_payload m ρ c (.rcv h) d]
  exact bigSep_elim (i := false) (Finset.mem_singleton_self _)

end Sched

/-! ## What is owed, and the order of the waits -/

/-- What `c` still owes the device after it when hop `h` is to come: a block's credit for each hop from `h` on. -/
def owedFrom (c : Dev nD) (h : ℕ) : CellTallies nD τ sig Unit :=
  ∑ i ∈ Finset.univ.filter (fun i : Fin 3 => h ≤ i.val), tallyAt (kcell (nxt c, .rcv i)) () N
/-- What `c` owes after its first signal, the second one's unit last, -/
def owedBar (c : Dev nD) : CellTallies nD τ sig Unit := owedFrom c 0 + tallyAt (kcell (nxt c, .bar)) () 1
/-- and at launch, the first one's unit last. -/
def owed₀ (c : Dev nD) : CellTallies nD τ sig Unit := owedBar c + tallyAt (kcell (prv c, .bar)) () 1

theorem owedFrom_step (c : Dev nD) (h : Fin 3) :
    owedFrom c h.val = owedFrom c (h.val + 1) + tallyAt (kcell (nxt c, .rcv h)) () N := by
  unfold owedFrom
  have e : Finset.univ.filter (fun i : Fin 3 => h.val ≤ i.val) = insert h (Finset.univ.filter (fun i : Fin 3 => h.val + 1 ≤ i.val)) := by
    revert h; decide
  rw [e, Finset.sum_insert (by simp), add_comm]

theorem owedFrom_three (c : Dev nD) : owedFrom c 3 = 0 := by
  unfold owedFrom
  rw [show Finset.univ.filter (fun i : Fin 3 => 3 ≤ i.val) = ∅ from by decide, Finset.sum_empty]

theorem owedFrom_apply (c : Dev nD) (h : ℕ) (g : GSem nD τ sig) (u : Unit) :
    owedFrom c h g u = ∑ i ∈ Finset.univ.filter (fun i : Fin 3 => h ≤ i.val), tallyAt (kcell (nxt c, .rcv i)) () N g u := by
  unfold owedFrom
  rw [Finset.sum_apply, Finsupp.finset_sum_apply]

theorem owedFrom_pos {c : Dev nD} {h : ℕ} {g : GSem nD τ sig} {u : Unit} (hg : 0 < owedFrom c h g u) :
    ∃ i : Fin 3, h ≤ i.val ∧ g = kcell (nxt c, .rcv i) := by
  rw [owedFrom_apply] at hg
  obtain ⟨i, hi, hp⟩ := Finset.exists_ne_zero_of_sum_ne_zero hg.ne'
  refine ⟨i, (Finset.mem_filter.mp hi).2, ?_⟩
  by_contra hne
  rw [tallyAt_apply, if_neg fun h' => hne h'.1] at hp
  exact hp rfl

/-- The cells waits are possible on: the TensorCores'. -/
def L (g : GSem nD τ sig) : Finset Unit := if g.1.2 = .tc then {()} else ∅
/-- The order of the waits: staging and send cells first, then the barrier, then the receive cells hop by hop. -/
def level (s : SemLoc sig) : ℕ :=
  match cellAt s with
  | some .bar => 1
  | some (.rcv h) => 2 + h.val
  | _ => 0
def lv (g : GSem nD τ sig) (_ : Unit) : ℕ := level g.2

theorem L_of_ne (g : GSem nD τ sig) (h : g.1.2 ≠ .tc) : L g = ∅ := if_neg h
theorem level_bar : level Cell.bar.sem = 1 := by decide
theorem level_snd (h : Fin 3) : level (Cell.snd h).sem = 0 := by revert h; decide
theorem level_rcv (h : Fin 3) : level (Cell.rcv h).sem = 2 + h.val := by revert h; decide

omit [FloatOps F] in
/-- A device may wait on a semaphore when all that it owes is owed to cells later in the order. -/
theorem mayWait_of_lt (c : Dev nD) (s : SemLoc sig) (O : CellTallies nD τ sig Unit)
    (h : ∀ g u, 0 < O g u → g.1.2 = .tc ∧ level s < level g.2) :
    (levAts L lv : sProp 𝕄) ⊢ MayWait (c : Thread nD τ) s () O :=
  MayOwe.of_cut (L := L) (lev := lv) (level s)
    (fun p hp => by rw [Finset.mem_singleton.mp hp]; unfold L; rw [if_pos rfl]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

omit [FloatOps F] in
/-- At the barrier it owes all three hops, -/
theorem mayWait_bar (c : Dev nD) : (levAts L lv : sProp 𝕄) ⊢ MayWait (c : Thread nD τ) Cell.bar.sem () (owedFrom c 0) :=
  mayWait_of_lt c _ _ fun g u hg => by
    obtain ⟨i, hi, rfl⟩ := owedFrom_pos hg
    exact ⟨rfl, by rw [level_bar, level_rcv]; omega⟩
omit [FloatOps F] in
/-- and during hop `h` the later ones. -/
theorem mayWait_snd (c : Dev nD) (h : Fin 3) :
    (levAts L lv : sProp 𝕄) ⊢ MayWait (c : Thread nD τ) (Cell.snd h).sem () (owedFrom c (h.val + 1)) :=
  mayWait_of_lt c _ _ fun g u hg => by
    obtain ⟨i, hi, rfl⟩ := owedFrom_pos hg
    exact ⟨rfl, by rw [level_snd, level_rcv]; omega⟩
omit [FloatOps F] in
theorem mayWait_rcv (c : Dev nD) (h : Fin 3) :
    (levAts L lv : sProp 𝕄) ⊢ MayWait (c : Thread nD τ) (Cell.rcv h).sem () (owedFrom c (h.val + 1)) :=
  mayWait_of_lt c _ _ fun g u hg => by
    obtain ⟨i, hi, rfl⟩ := owedFrom_pos hg
    exact ⟨rfl, by rw [level_rcv, level_rcv]; omega⟩

theorem owed₀_pos {c : Dev nD} {g : GSem nD τ sig} {u : Unit} (hg : 0 < owed₀ c g u) :
    ∃ (c' : Dev nD) (k : Cell), g = kcell (c', k) ∧ 0 < level k.sem := by
  unfold owed₀ owedBar at hg
  rw [Pi.add_apply, Finsupp.add_apply, Pi.add_apply, Finsupp.add_apply] at hg
  by_cases h1 : 0 < owedFrom c 0 g u
  · obtain ⟨i, -, e⟩ := owedFrom_pos h1
    exact ⟨_, _, e, by rw [level_rcv]; omega⟩
  by_contra hn
  rw [tallyAt_apply, tallyAt_apply, if_neg fun h' => hn ⟨_, _, h'.1, by rw [level_bar]; omega⟩,
    if_neg fun h' => hn ⟨_, _, h'.1, by rw [level_bar]; omega⟩] at hg
  omega

omit [FloatOps F] in
/-- At a staging semaphore it owes at most what it owes at launch. -/
theorem mayWait_stage (c : Dev nD) (s : SemLoc sig) (hs : level s = 0) (O : CellTallies nD τ sig Unit)
    (hO : O = owed₀ c ∨ O = 0) : (levAts L lv : sProp 𝕄) ⊢ MayWait (c : Thread nD τ) s () O := by
  rcases hO with rfl | rfl
  · exact mayWait_of_lt c s _ fun g u hg => by
      obtain ⟨c', k, rfl, hk⟩ := owed₀_pos hg
      exact ⟨rfl, by rw [hs]; exact hk⟩
  · rw [MayWait_zero]; iintro -; iempintro

end Cert.GatherProof

end
-- ==== Proof.Output.lean ====
/-
The output, row block by row block.

A device writes its output in four stores, one for each row block of `A` it meets: the product of device `d`'s rows with
its own columns of `B` goes to the rows `1024 d …` of the output.  After all four the output is one function of its index.
-/
module

public import proofs.«01_k».proof.Proof.Protocol

@[expose] public section

noncomputable section

namespace Cert.GatherProof

open Cert.KernelIdeal Cert.KernelIdeal.Gen
open Idealize.ShloMosaic
open Idealize.ShloMosaic.TcCoe

variable {F : FTy → Type} [FloatOps F]

variable (m : (ℓ : Loc nD τ sig) → Buf (Elt F) ℓ) (ρ : Dev nD → PrngReg)

/-- The staged output. -/
abbrev outM : Memref sig .tc .vmem S4096x1024 .f32 := Memref.whole cc0_stg2_0

theorem out_inb (d : Dev nD) : ∀ a, (![1024 * d.val, 0] : Fin 2 → ℕ) a + S1024x1024.size a ≤ S4096x1024.size a := by
  revert d; decide

/-- Device `d`'s rows of the output. -/
abbrev outR (d : Dev nD) : Rect S4096x1024 := Rect.unit (s := S4096x1024) ![1024 * d.val, 0] S1024x1024.size (out_inb d)

/-- The offsets the kernel computes for its store after hop `h` are those of the rows of the device `h` places before. -/
theorem off_eq (c : Dev nD) (h : Fin 4) : k0_off1 c (BitVec.ofNat 32 h.val) = ![1024 * (back c h).val, 0] := by
  revert c h; decide +kernel

/-- One block's product, from a zero accumulator. -/
def blockProd (a : Vec F S1024x512 .bf16) (b : Vec F S512x1024 .bf16) : FVec F S1024x1024 .f32 :=
  matmul dot_S1024x512_S512x1024_S1024x1024_1_0_0_1_n_n none a (k0_pay1 b)
    (constant S1024x1024 .f32 0x00000000#32)

/-- The device whose rows hold an index of the output, -/
def rowDev (i : S4096x1024.Idx) : Dev nD := ⟨(i 0).val / 1024, Nat.div_lt_of_lt_mul (i 0).isLt⟩
/-- and the index within those rows. -/
def rowIdx (i : S4096x1024.Idx) : S1024x1024.Idx := fun a =>
  match a with
  | ⟨0, _⟩ => ⟨(i 0).val % 1024, Nat.mod_lt _ (by decide)⟩
  | ⟨1, _⟩ => ⟨(i 1).val, (i 1).isLt⟩

theorem outR_rowIdx (i : S4096x1024.Idx) : (outR (rowDev i)).emb (rowIdx i) = i := by
  funext a
  refine Fin.ext ?_
  fin_cases a
  · show 1024 * ((i 0).val / 1024) + 1 * ((i 0).val % 1024) = (i 0).val
    omega
  · show 0 + 1 * (i 1).val = (i 1).val
    omega

theorem rowDev_outR (d : Dev nD) (x : S1024x1024.Idx) : rowDev ((outR d).emb x) = d := by
  have hx : (x 0).val < 1024 := (x 0).isLt
  refine Fin.ext ?_
  show (1024 * d.val + 1 * (x 0).val) / 1024 = d.val
  omega

theorem rowIdx_outR (d : Dev nD) (x : S1024x1024.Idx) : rowIdx ((outR d).emb x) = x := by
  have hx : (x 0).val < 1024 := (x 0).isLt
  funext a
  refine Fin.ext ?_
  fin_cases a
  · show (1024 * d.val + 1 * (x 0).val) % 1024 = (x 0).val
    omega
  · show 0 + 1 * (x 1).val = (x 1).val
    omega

/-- The kernel's result on device `c`. -/
def outAt (c : Dev nD) : (cc0_stg2_0 : Ref sig .tc).ty.Contents (Elt F) := fun i =>
  blockProd (aBlk m ρ (rowDev i)) (bBlk m ρ c) (rowIdx i)

/-- Contents of the output in which the row blocks of the first `h` hops are written. -/
def Filled (c : Dev nD) (h : ℕ) (f : (cc0_stg2_0 : Ref sig .tc).ty.Contents (Elt F)) : Prop :=
  ∀ j : Fin 4, j.val < h → (outM.access (outR (back c j))).read (Elt F) f = blockProd (aBlk m ρ (back c j)) (bBlk m ρ c)

theorem filled_zero (c : Dev nD) (f : (cc0_stg2_0 : Ref sig .tc).ty.Contents (Elt F)) : Filled m ρ c 0 f :=
  fun _ hj => absurd hj (Nat.not_lt_zero _)

theorem back_ne (c : Dev nD) (h j : Fin 4) (hn : j ≠ h) : back c j ≠ back c h := by
  revert c h j; decide

/-- The store after hop `h` adds that hop's rows and leaves the others. -/
theorem filled_write (c : Dev nD) (h : Fin 4) (f : (cc0_stg2_0 : Ref sig .tc).ty.Contents (Elt F))
    (hf : Filled m ρ c h.val f) :
    Filled m ρ c (h.val + 1) ((outM.access (outR (back c h))).write (Elt F) f
      (blockProd (aBlk m ρ (back c h)) (bBlk m ρ c)) Finset.univ) := by
  intro j hj
  by_cases e : j = h
  · subst e; exact View.read_write_univ _ _
  · have hne : (back c j).val ≠ (back c h).val := fun e' => back_ne c h j e (Fin.ext e')
    refine (View.read_slice_write_slice_of_disjoint _ _ _ _ _ ?_).trans
      (hf j (Nat.lt_of_le_of_ne (Nat.le_of_lt_succ hj) fun e' => e (Fin.ext e')))
    refine View.disjoint_slice (Rect.unit_disjoint 0 ?_)
    show 1024 * (back c j).val + 1024 ≤ 1024 * (back c h).val ∨ 1024 * (back c h).val + 1024 ≤ 1024 * (back c j).val
    omega

theorem back_onto (c d : Dev nD) : ∃ h : Fin 4, back c h = d := by revert c d; decide

/-- After all four the output is the result. -/
theorem filled_four (c : Dev nD) (f : (cc0_stg2_0 : Ref sig .tc).ty.Contents (Elt F)) (hf : Filled m ρ c 4 f) :
    f = outAt m ρ c := by
  funext i
  obtain ⟨h, hh⟩ := back_onto c (rowDev i)
  have e := congrFun (hf h h.isLt) (rowIdx i)
  rw [hh] at e
  refine Eq.trans ?_ e
  show f i = f ((outR (rowDev i)).emb (rowIdx i))
  rw [outR_rowIdx]

end Cert.GatherProof

end
-- ==== Proof.Hop.lean ====
/-
One hop, stated once for the three.

A hop sends slot `h` on, and while the transfer reads it multiplies the same slot and stores the product; then it waits
for both ends of its transfers.  The multiplication needs only a half of the slot's share, the other being lent to the
transfer until the send cell is waited for.
-/
module

public import proofs.«01_k».proof.Proof.Output

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GhostU ℕ

variable (m : (ℓ : Loc nD τ sig) → Buf (Elt F) ℓ) (ρ : Dev nD → PrngReg)

abbrev 𝒱₀ : Variants := Variants.none

/-- The weakest precondition of a program run by device `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every device knows: each cell's invariant, at some name, and that each cell has reached its round. -/
def records (K : Dev nD × Cell → ℕ) : sProp 𝕄 :=
  iprop((bigSep Finset.univ fun ck : Dev nD × Cell => cellInv ER (sched m ρ) (K ck) (kcell ck))
    ∗ bigSep Finset.univ fun ck : Dev nD × Cell => reached ER (kcell ck) 0)

instance records_persistent (K : Dev nD × Cell → ℕ) : BI.Persistent (records (F := F) m ρ K) := by
  unfold records; infer_instance

theorem records_inv (K : Dev nD × Cell → ℕ) (ck : Dev nD × Cell) :
    records m ρ K ⊢ (cellInv ER (sched m ρ) (K ck) (kcell ck) : sProp 𝕄) := by
  unfold records; exact (BI.sep_and.trans and_elimL).trans (bigSep_elim (Finset.mem_univ ck))

theorem records_reached (K : Dev nD × Cell → ℕ) (ck : Dev nD × Cell) :
    records m ρ K ⊢ (reached ER (kcell ck) 0 : sProp 𝕄) := by
  unfold records; exact (BI.sep_and.trans and_elimR).trans (bigSep_elim (Finset.mem_univ ck))

/-- The staged output, the rows of the first `h` hops written. -/
def outFilled (c : Dev nD) (h : ℕ) : sProp 𝕄 :=
  iprop(∃ f : (cc0_stg2_0 : Ref sig .tc).ty.Contents (Elt F), ⌜Filled m ρ c h f⌝ ∗ (((c : Thread nD τ).loc cc0_stg2_0) ↦{fullShare} f))

/-- The kernel's product of a slot with the columns of `B`: load the slot, multiply, store to the rows of the device
    whose block it is. -/
theorem wp_block (c : Dev nD) (h : Fin 4) (q : PosShare TreeShare) (pay : Vec F S1x1024x512 .bf16 → FVec F S1024x1024 .f32)
    (hpay : ∀ v, pay v = blockProd (shapeCast S1024x512 v shapeCasts_S1x1024x512_S1024x512) (bBlk m ρ c))
    (off : Fin 2 → ℕ) (hoff : off = ![1024 * (back c h).val, 0])
    {inb : ∀ a, off a + S1024x1024.size a ≤ S4096x1024.size a}
    {hl : landM.view.LoadsAt (slotR h).toLoadRect}
    {hl' : outM.view.LoadsAt (Rect.unit (s := S4096x1024) off S1024x1024.size inb).toLoadRect}
    {hx : (outM.access (Rect.unit (s := S4096x1024) off S1024x1024.size inb)).Stores Finset.univ}
    {hm : (Finset.univ : Finset (Rect.unit (s := S4096x1024) off S1024x1024.size inb).shape.Idx) = Finset.univ
      ∨ ∀ a, (Rect.unit (s := S4096x1024) off S1024x1024.size inb).stride a = 1}
    {α : Type} {k : PUnit → Prog (TpuEff nD τ sig (Elt F) Λ₀ .tc) α} {Q : α → sProp 𝕄} :
    iprop(slotAt c h q (aBlk m ρ (back c h)) ∗ outFilled m ρ c h.val)
      ⊢ iprop(((slotAt c h q (aBlk m ρ (back c h)) ∗ outFilled m ρ c (h.val + 1)) -∗ runs c (k ⟨⟩) Q)
          -∗ runs c (.op (.load landM (slotR h).toLoadRect hl) fun v =>
              .op (.load outM (Rect.unit (s := S4096x1024) off S1024x1024.size inb).toLoadRect hl') fun _ =>
              .op (.store outM (Rect.unit (s := S4096x1024) off S1024x1024.size inb) (pay v) Finset.univ hx hm) k) Q) := by
  subst hoff
  unfold slotAt owns outFilled
  iintro ⟨⟨%f, %hf, Hs⟩, ⟨%g, %hg, Ho⟩⟩
  iintro Hk
  iapply (wp_load 𝒱₀ (c : Thread nD τ) none Set.univ (m := landM) (slot_load_subset h)) $$ Hs; iintro Hs
  iapply (wp_load 𝒱₀ (c : Thread nD τ) none Set.univ (m := outM) (Finset.subset_univ _)) $$ Ho; iintro Ho
  iapply (wp_store 𝒱₀ (c : Thread nD τ) none Set.univ (m := outM) (r := outR (back c h)) (Mk := Finset.univ)
    (Finset.subset_univ _)) $$ Ho; iintro Ho
  iapply Hk
  isplitl [Hs]
  · iexists f; isplitr; · ipureintro; exact hf
    iexact Hs
  iexists _
  isplitr [Ho]; rotate_left; · iexact Ho
  ipureintro
  rw [hpay, slot_cast_load, hf]
  exact filled_write m ρ c h g hg

/-- The lent half of slot `h` is what its send cell hands back, -/
theorem lent_pays (c : Dev nD) (h : Fin 3) (f : (cc0_scratch0 : Ref sig .tc).ty.Contents (Elt F))
    (hf : (slotM h.castSucc).view.read (Elt F) f = aBlk m ρ (back c h.castSucc)) :
    (((slotM h.castSucc).view.loc (c : Thread nD τ)) ↦[(slotM h.castSucc).view.set]{fullShare.right} f : sProp 𝕄)
      ⊢ (sched m ρ).payload (kcell (c, .snd h)) 0 false := by
  refine BIBase.Entails.trans ?_ (Entails.of_eq (sched_payload (F := F) m ρ c (.snd h) false).symm)
  show _ ⊢ sndPay m ρ c h
  unfold sndPay slotAt owns
  iintro H; iexists f; isplitr; · ipureintro; exact hf
  iexact H

/-- and slot `h + 1` of the device after, written with the block, is what that device's receive cell hands over. -/
theorem landed_pays (c : Dev nD) (h : Fin 3) (f g : (cc0_scratch0 : Ref sig .tc).ty.Contents (Elt F))
    (hf : (slotM h.castSucc).view.read (Elt F) f = aBlk m ρ (back c h.castSucc)) :
    (((slotM h.succ).view.loc (nxt c : Thread nD τ)) ↦[(slotM h.succ).view.set]{fullShare}
        ((slotM h.succ).view.write (Elt F) g ((slotM h.castSucc).view.read (Elt F) f) Finset.univ) : sProp 𝕄)
      ⊢ (sched m ρ).payload (kcell (nxt c, .rcv h)) 0 false := by
  refine BIBase.Entails.trans ?_ (Entails.of_eq (sched_payload (F := F) m ρ (nxt c) (.rcv h) false).symm)
  show _ ⊢ rcvPay m ρ (nxt c) h
  unfold rcvPay slotAt owns
  iintro H; iexists _; isplitr [H]; rotate_left; · iexact H
  ipureintro
  rw [View.read_write_univ, hf, back_hop]

/-- Every slot's transfer counts the same. -/
theorem slot_credit (h : Fin 4) : (slotM h).view.dmaCredit = N := by revert h; decide

theorem hduty₁ (c : Dev nD) (h : Fin 3) : false ∈ (sched (F := F) m ρ).duties (kcell (c, .snd h)) 0 := by
  rw [sched_duties]; exact Finset.mem_singleton_self _
theorem hduty₂ (c : Dev nD) (h : Fin 3) : false ∈ (sched (F := F) m ρ).duties (kcell (nxt c, .rcv h)) 0 := by
  rw [sched_duties]; exact Finset.mem_singleton_self _

/-- A hop's transfer: the sender lends the half of slot `h` that is read, and gives up slot `h + 1` of the device after. -/
theorem wp_hop_send (K : Dev nD × Cell → ℕ) (c n : Dev nD) (h : Fin 3) (hn : n = nxt c)
    {hsc : (slotM h.succ : Memref sig (Dev.tc n : Thread nD τ).2.kind .vmem S1024x512 .bf16).view.ref.isScScratch = false}
    {hsrc : (slotM h.castSucc).view.WordExact} {hdst : (slotM h.succ).view.WordExact}
    {hsem : DmaTarget.Typed .vmem (.dma (rcvS h)) (.remote (Dev.tc n : Thread nD τ) (slotM h.succ) (.dma (sndS h)) hsc)}
    {α : Type} {k : PUnit → Prog (TpuEff nD τ sig (Elt F) Λ₀ .tc) α} {Q : α → sProp 𝕄} (W : Waits sig Unit) :
    iprop(records m ρ K ∗ slotAt c h.castSucc fullShare.right (aBlk m ρ (back c h.castSucc)) ∗ slotAny (nxt c) h.succ
        ∗ owes (c : Thread nD τ) (owedFrom c h.val) W
        ∗ dutyTok ER (kcell (c, .snd h)) 0 false ∗ dutyTok ER (kcell (nxt c, .rcv h)) 0 false)
      ⊢ iprop(((cred (tallyAt (kcell (c, .snd h)) () N) ∗ owes (c : Thread nD τ) (owedFrom c (h.val + 1)) W) -∗ runs c (k ⟨⟩) Q)
          -∗ runs c (.op (.enqueueDma (slotM h.castSucc) (.remote (Dev.tc n : Thread nD τ) (slotM h.succ) (.dma (sndS h)) hsc)
              (.dma (rcvS h)) hsrc hdst hsem) k) Q) := by
  subst hn
  unfold slotAt owns slotAny
  iintro ⟨#HR, ⟨%fs, %hfs, Hs⟩, ⟨%fd, Hd⟩, HO, HtS, HtR⟩
  iintro Hk
  iapply (Rounds.wp_send_pointsTo 𝒱₀ ER (sched m ρ) (c : Thread nD τ) none (c' := (nxt c : Thread nD τ))
      (src := slotM h.castSucc) (dst := slotM h.succ) (sS := .dma (sndS h)) (sem := .dma (rcvS h))
      (hsc := hsc) (hsrc := hsrc) (hdst := hdst) (hsem := hsem) (k := k)
      (κ₁ := K (c, .snd h)) (κ₂ := K (nxt c, .rcv h)) (r₁ := 0) (r₂ := 0) (d₁ := false) (d₂ := false)
      (fs := fs) (fd := fd) (hduty₁ m ρ c h) (hduty₂ m ρ c h)
      () () N (slot_credit h.succ) (sched_amount m ρ c (.snd h) false) (sched_amount m ρ (nxt c) (.rcv h) false)
      (owedFrom c (h.val + 1)) (owedFrom_step c h) (W := W)
      (lent_pays m ρ c h fs hfs) (landed_pays m ρ c h fs fd hfs)) $$ [Hs Hd HO HtS HtR]
  · isplitr; · iapply (records_inv m ρ K (c, .snd h)); iexact HR
    isplitr; · iapply (records_inv m ρ K (nxt c, .rcv h)); iexact HR
    isplitl [Hs]; · iexact Hs
    isplitl [Hd]; · iexact Hd
    isplitl [HO]; · iexact HO
    isplitl [HtS]; · iexact HtS
    isplitr; · iapply (records_reached m ρ K (c, .snd h)); iexact HR
    isplitl [HtR]; · iexact HtR
    iapply (records_reached m ρ K (nxt c, .rcv h)); iexact HR
  iintro H
  iapply Hk
  iexact H

/-- What device `c` has set aside for hop `h`: its positions at the hop's two cells, the tokens of the duties its transfer
    pays, and the credit of its own receive cell. -/
def hopGhost (c : Dev nD) (h : Fin 3) : sProp 𝕄 :=
  iprop(atPos ER (kcell (c, .snd h)) 0 ∅ 0 ∗ atPos ER (kcell (c, .rcv h)) 0 ∅ 0
    ∗ dutyTok ER (kcell (c, .snd h)) 0 false ∗ dutyTok ER (kcell (nxt c, .rcv h)) 0 false
    ∗ cred (tallyAt (kcell (c, .rcv h)) () N))

/-- What it has when hop `h` is the next: its block in slot `h`, the slot it will write, the output so far, what it owes. -/
def hopPre (c : Dev nD) (h : Fin 3) : sProp 𝕄 :=
  iprop(slotAt c h.castSucc fullShare (aBlk m ρ (back c h.castSucc)) ∗ slotAny (nxt c) h.succ ∗ outFilled m ρ c h.val
    ∗ ∃ W, owes (c : Thread nD τ) (owedFrom c h.val) W)

/-- What it has after hop `h`: slot `h` again, the next block in slot `h + 1`, and both cells spent. -/
def hopPost (c : Dev nD) (h : Fin 3) : sProp 𝕄 :=
  iprop(slotAny c h.castSucc ∗ slotAt c h.succ fullShare (aBlk m ρ (back c h.succ)) ∗ outFilled m ρ c (h.val + 1)
    ∗ (∃ W, owes (c : Thread nD τ) (owedFrom c (h.val + 1)) W)
    ∗ semVal (kcell (c, .snd h)) 0 ∗ semVal (kcell (c, .rcv h)) 0)

/-- A hop: send the slot on, multiply it, wait for the sending and for the block that arrives. -/
theorem wp_hop (K : Dev nD × Cell → ℕ) (c n : Dev nD) (h : Fin 3) (hn : n = nxt c)
    (pay : Vec F S1x1024x512 .bf16 → FVec F S1024x1024 .f32)
    (hpay : ∀ v, pay v = blockProd (shapeCast S1024x512 v shapeCasts_S1x1024x512_S1024x512) (bBlk m ρ c))
    (off : Fin 2 → ℕ) (hoff : off = ![1024 * (back c h.castSucc).val, 0])
    {hsc : (slotM h.succ : Memref sig (Dev.tc n : Thread nD τ).2.kind .vmem S1024x512 .bf16).view.ref.isScScratch = false}
    {hsrc : (slotM h.castSucc).view.WordExact} {hdst : (slotM h.succ).view.WordExact}
    {hsem : DmaTarget.Typed .vmem (.dma (rcvS h)) (.remote (Dev.tc n : Thread nD τ) (slotM h.succ) (.dma (sndS h)) hsc)}
    {inb : ∀ a, off a + S1024x1024.size a ≤ S4096x1024.size a}
    {hl : landM.view.LoadsAt (slotR h.castSucc).toLoadRect}
    {hl' : outM.view.LoadsAt (Rect.unit (s := S4096x1024) off S1024x1024.size inb).toLoadRect}
    {hx : (outM.access (Rect.unit (s := S4096x1024) off S1024x1024.size inb)).Stores Finset.univ}
    {hm : (Finset.univ : Finset (Rect.unit (s := S4096x1024) off S1024x1024.size inb).shape.Idx) = Finset.univ
      ∨ ∀ a, (Rect.unit (s := S4096x1024) off S1024x1024.size inb).stride a = 1}
    {w₁ : (slotM h.succ).view.WordExact} {w₂ : (slotM h.castSucc).view.WordExact}
    {w₃ : (slotM h.castSucc).view.WordExact} {w₄ : (slotM h.succ).view.WordExact}
    {α : Type} {k : PUnit → Prog (TpuEff nD τ sig (Elt F) Λ₀ .tc) α} {Q : α → sProp 𝕄} :
    iprop(records m ρ K ∗ levAts L lv ∗ hopGhost c h ∗ hopPre m ρ c h)
      ⊢ iprop((hopPost m ρ c h -∗ runs c (k ⟨⟩) Q)
          -∗ runs c (.op (.enqueueDma (slotM h.castSucc) (.remote (Dev.tc n : Thread nD τ) (slotM h.succ) (.dma (sndS h)) hsc)
              (.dma (rcvS h)) hsrc hdst hsem) fun _ =>
            .op (.load landM (slotR h.castSucc).toLoadRect hl) fun v =>
            .op (.load outM (Rect.unit (s := S4096x1024) off S1024x1024.size inb).toLoadRect hl') fun _ =>
            .op (.store outM (Rect.unit (s := S4096x1024) off S1024x1024.size inb) (pay v) Finset.univ hx hm) fun _ =>
            .op (.waitDma2 (sndS h) (slotM h.succ) (slotM h.castSucc) w₁ w₂) fun _ =>
            .op (.waitDma2 (rcvS h) (slotM h.castSucc) (slotM h.succ) w₃ w₄) k) Q) := by
  unfold hopGhost hopPre
  iintro ⟨#HR, #HL, ⟨HatS, HatR, HtS, HtR, HcR⟩, ⟨Hs, Hd, Ho, ⟨%W, HO⟩⟩⟩
  iintro Hk
  ihave Hs := (slotAt_halves c h.castSucc _) $$ Hs
  icases Hs with ⟨Hkeep, Hlend⟩
  iapply (wp_hop_send m ρ K c n h hn W) $$ [Hlend Hd HO HtS HtR]
  · isplitr; · iexact HR
    isplitl [Hlend]; · iexact Hlend
    isplitl [Hd]; · iexact Hd
    isplitl [HO]; · iexact HO
    isplitl [HtS] <;> iassumption
  iintro ⟨HcS, HO⟩
  iapply (wp_block m ρ c h.castSucc fullShare.left pay hpay off hoff) $$ [Hkeep Ho]
  · isplitl [Hkeep]; · iexact Hkeep
    iexact Ho
  iintro ⟨Hkeep, Ho⟩
  -- the sending is over: the lent half is back
  iapply (Rounds.wp_wait_rest_token 𝒱₀ ER (sched m ρ) (c : Thread nD τ) none (κ := K (c, .snd h))
      (wpE_waitDma2_eq 𝒱₀ (c : Thread nD τ) none Set.univ) (Set.mem_univ _) () (O := owedFrom c (h.val + 1)) (W := W)
      (R := 0) (m := 0) (T := ∅)
      (by rw [Nat.zero_add]; exact (slot_credit h.castSucc).trans (expect_snd m ρ c h).symm)) $$ [HcS HO HatS]
  · isplitr; · iapply (records_inv m ρ K (c, .snd h)); iexact HR
    isplitl [HcS]; · iexact HcS
    isplitl [HO]; · iexact HO
    isplitr; · iapply (mayWait_snd c h); iexact HL
    iexact HatS
  iintro ⟨HO, HatS, -, Hpay⟩
  ihave Hlend := (round_snd m ρ c h) $$ Hpay
  unfold sndPay
  -- the next block is in
  iapply (Rounds.wp_wait_rest_token 𝒱₀ ER (sched m ρ) (c : Thread nD τ) none (κ := K (c, .rcv h))
      (wpE_waitDma2_eq 𝒱₀ (c : Thread nD τ) none Set.univ) (Set.mem_univ _) () (O := owedFrom c (h.val + 1))
      (W := insert (SemLoc.dma (sndS h), ()) W) (R := 0) (m := 0) (T := ∅)
      (by rw [Nat.zero_add]; exact (slot_credit h.succ).trans (expect_rcv m ρ c h).symm)) $$ [HcR HO HatR]
  · isplitr; · iapply (records_inv m ρ K (c, .rcv h)); iexact HR
    isplitl [HcR]; · iexact HcR
    isplitl [HO]; · iexact HO
    isplitr; · iapply (mayWait_rcv c h); iexact HL
    iexact HatR
  iintro ⟨HO, HatR, -, Hpay⟩
  ihave Hnew := (round_rcv m ρ c h) $$ Hpay
  unfold rcvPay
  imod (Rounds.cell_close ER (sched m ρ) (Set.mem_univ (K (c, .snd h))) (fun h => h) (R := 0 + 1)
    (sched_later m ρ (kcell (c, .snd h)))) $$ [HatS] with HzS
  · isplitr; · iapply (records_inv m ρ K (c, .snd h)); iexact HR
    iexact HatS
  imod (Rounds.cell_close ER (sched m ρ) (Set.mem_univ (K (c, .rcv h))) (fun h => h) (R := 0 + 1)
    (sched_later m ρ (kcell (c, .rcv h)))) $$ [HatR] with HzR
  · isplitr; · iapply (records_inv m ρ K (c, .rcv h)); iexact HR
    iexact HatR
  iapply Hk
  unfold hopPost
  isplitl [Hkeep Hlend]
  · iapply (slotAt_any c h.castSucc (aBlk m ρ (back c h.castSucc)))
    iapply (slotAt_join c h.castSucc)
    isplitl [Hkeep] <;> iassumption
  isplitl [Hnew]; · iexact Hnew
  isplitl [Ho]; · iexact Ho
  isplitl [HO]; · iexists _; iexact HO
  isplitl [HzS] <;> iassumption

end Cert.GatherProof

end
-- ==== Proof.Body.lean ====
/-
The kernel's body on one device.

It starts with its landing buffer, the tokens and credits of the ring, and the two staged operands; it runs the barrier,
the three hops and the last product, and ends with the output written and every cell spent.
-/
module

public import proofs.«01_k».proof.Proof.Hop
public import proofs.«01_k».proof.Proof.Gen.KernelIdeal.Points

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ GhostU ℕ

variable (m : (ℓ : Loc nD τ sig) → Buf (Elt F) ℓ) (ρ : Dev nD → PrngReg)

/-- A conjunction over the cells of a device, cell by cell. -/
theorem bigSep_cells {M : Type} [URA M] (Φ : Cell → sProp M) :
    bigSep Finset.univ Φ = iprop(Φ .bar ∗ Φ (.snd 0) ∗ Φ (.snd 1) ∗ Φ (.snd 2) ∗ Φ (.rcv 0) ∗ Φ (.rcv 1) ∗ Φ (.rcv 2)) :=
  bigSep_univ_eq_bigSepL cellList (by decide) (by decide) Φ

/-- What device `c` has set aside for the barrier: its position, a token for each neighbour's cell, and both units of
    credit of its own. -/
def barGhost (c : Dev nD) : sProp 𝕄 :=
  iprop(atPos ER (kcell (c, .bar)) 0 ∅ 0 ∗ dutyTok ER (kcell (nxt c, .bar)) 0 false ∗ dutyTok ER (kcell (prv c, .bar)) 0 true
    ∗ cred (tallyAt (kcell (c, .bar)) () 2))

/-- All that the ring's bookkeeping gives device `c` at the start. -/
def start (c : Dev nD) : sProp 𝕄 :=
  iprop((∃ K, records m ρ K) ∗ levAts L lv ∗ barGhost c ∗ hopGhost c 0 ∗ hopGhost c 1 ∗ hopGhost c 2)

/-- The landing buffer, held whole. -/
def landAny (c : Dev nD) : sProp 𝕄 :=
  iprop(∃ f : (cc0_scratch0 : Ref sig .tc).ty.Contents (Elt F), ((c : Thread nD τ).loc cc0_scratch0) ↦{fullShare} f)

/-- The pipeline's data: the operands are read, the output is written whole, and the ring's state goes from its start to
    all cells spent. -/
def dats (_ : Fin 1) (c : Dev nD) : Dat τ (Elt F) Unit ℕ GhostU ℕ cfg0 c where
  A w := (s₀ m ρ).mem ((cfg0.win w).arr.view.loc (c : Thread nD τ))
  after w _ := match w with
    | ⟨0, _⟩ => aBlk m ρ c
    | ⟨1, _⟩ => bBlk m ρ c
    | ⟨2, _⟩ => outAt m ρ c
  Φ t := match t with
    | ⟨0, _⟩ => iprop(start m ρ c ∗ landAny c)
    | ⟨_ + 1, _⟩ => iprop(landAny c ∗ bigSep Finset.univ fun k : Cell => semVal (kcell (c, k)) 0)
  q _ := fullShare
  owed t := match t with
    | ⟨0, _⟩ => owed₀ c
    | ⟨_ + 1, _⟩ => 0

/-- A staging buffer of device `c`, held whole at contents `X`. -/
abbrev staged (c : Dev nD) (b : Ref sig .tc) (X : b.ty.Contents (Elt F)) : sProp 𝕄 :=
  ((c : Thread nD τ).loc b) ↦{fullShare} X

omit [FloatOps F] in
theorem owns_staged (c : Dev nD) (b : Ref sig .tc) (X : b.ty.Contents (Elt F)) :
    (owns (c : Thread nD τ) (Memref.whole b) fullShare X : sProp 𝕄)
      = iprop(∃ f : b.ty.Contents (Elt F), ⌜f = X⌝ ∗ staged c b f) := by
  unfold owns; simp only [Memref.view_whole, View.read_whole, View.set_whole]

theorem off_zero₂ : (![0, 0] : Fin 2 → ℕ) = fun _ => 0 := by decide

theorem bar_duty (c : Dev nD) (d : Bool) : d ∈ (sched (F := F) m ρ).duties (kcell (c, .bar)) 0 := by
  rw [sched_duties]; exact Finset.mem_univ d

/-- The slots of the device after pay for its barrier duty; -/
theorem bar_pays (c : Dev nD) : barPay c ⊢ ((sched m ρ).payload (kcell (c, .bar)) 0 true : sProp 𝕄) :=
  Entails.of_eq (sched_payload (F := F) m ρ c .bar true).symm
/-- the duty of the device before is paid with nothing. -/
theorem bar_pays_nothing (c : Dev nD) : emp ⊢ ((sched m ρ).payload (kcell (c, .bar)) 0 false : sProp 𝕄) :=
  Entails.of_eq (sched_payload (F := F) m ρ c .bar false).symm

/-- After the store the device's own block is in slot 0. -/
theorem own_slot (c : Dev nD) (f : (cc0_scratch0 : Ref sig .tc).ty.Contents (Elt F)) :
    (((c : Thread nD τ).loc cc0_scratch0) ↦[slotSet 0]{fullShare}
        ((landM.access (slotR 0)).write (Elt F) f (k0_pay2 (aBlk m ρ c)) Finset.univ) : sProp 𝕄)
      ⊢ slotAt c 0 fullShare (aBlk m ρ (back c 0)) := by
  unfold slotAt owns
  iintro H; iexists _; isplitr [H]; rotate_left; · iexact H
  ipureintro
  rw [slot_read_store, back_zero]

/-- The program that one device runs. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    cc0_scratch1 cc0_scratch2

/-- What the body ends with. -/
def bodyEnd (c : Dev nD) : sProp 𝕄 :=
  iprop(landAny c ∗ (bigSep Finset.univ fun k : Cell => semVal (kcell (c, k)) 0)
    ∗ (∃ W, owes (c : Thread nD τ) 0 W)
    ∗ staged c cc0_stg0_0 (aBlk m ρ c) ∗ staged c cc0_stg1_0 (bBlk m ρ c) ∗ staged c cc0_stg2_0 (outAt m ρ c))

set_option maxHeartbeats 2000000 in
/-- The whole body. -/
theorem wp_body (K : Dev nD × Cell → ℕ) (c : Dev nD) (W : Waits sig Unit) (g : (cc0_stg2_0 : Ref sig .tc).ty.Contents (Elt F))
    (Q : PUnit → sProp 𝕄) :
    iprop(records m ρ K ∗ levAts L lv ∗ barGhost c ∗ hopGhost c 0 ∗ hopGhost c 1 ∗ hopGhost c 2 ∗ landAny c
        ∗ owes (c : Thread nD τ) (owed₀ c) W
        ∗ staged c cc0_stg0_0 (aBlk m ρ c) ∗ staged c cc0_stg1_0 (bBlk m ρ c) ∗ staged c cc0_stg2_0 g)
      ⊢ iprop((bodyEnd m ρ c -∗ Q ⟨⟩) -∗ runs c bodyProg Q) := by
  unfold bodyProg runs
  simp only [cc0_body_eq_skeleton]
  unfold cc0_body_skel
  simp only [k0_part1_eq_skeleton, k0_part2_eq_skeleton, k0_part3_eq_skeleton,
    k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold barGhost landAny
  iintro ⟨#HR, #HL, ⟨HatB, HtN, HtP, HcB⟩, Hh0, Hh1, Hh2, ⟨%f, Hland⟩, HO, HA, HB, Hout⟩
  iintro Hk
  ihave Hland := (slots_split c f) $$ Hland
  icases Hland with ⟨Hs0, Hs1, Hs2, Hs3⟩
  simp only [dev1_eq c, dev2_eq c]
  -- the device before is told, and given the slots it will write
  iapply (Rounds.wp_signal 𝒱₀ ER (sched m ρ) (c : Thread nD τ) none (dst := (prv c : Thread nD τ)) (κ := K (prv c, .bar))
      (d := true) (bar_duty m ρ (prv c) true) ((sched_amount m ρ (prv c) .bar true).trans (by decide)) () (owedBar c) rfl)
    $$ [HO HtP Hs1 Hs2 Hs3]
  · isplitr; · iapply (records_inv m ρ K (prv c, .bar)); iexact HR
    isplitl [HO]; · iexact HO
    isplitl [HtP]; · iexact HtP
    isplitl [Hs1 Hs2 Hs3]
    · iapply (bar_pays m ρ (prv c))
      unfold barPay; rw [nxt_prv]
      isplitl [Hs1]; · iexact Hs1
      isplitl [Hs2] <;> iassumption
    iapply (records_reached m ρ K (prv c, .bar)); iexact HR
  iintro HO
  -- the device after is told
  iapply (Rounds.wp_signal 𝒱₀ ER (sched m ρ) (c : Thread nD τ) none (dst := (nxt c : Thread nD τ)) (κ := K (nxt c, .bar))
      (d := false) (bar_duty m ρ (nxt c) false) ((sched_amount m ρ (nxt c) .bar false).trans (by decide)) () (owedFrom c 0) rfl)
    $$ [HO HtN]
  · isplitr; · iapply (records_inv m ρ K (nxt c, .bar)); iexact HR
    isplitl [HO]; · iexact HO
    isplitl [HtN]; · iexact HtN
    isplitr; · iapply (bar_pays_nothing m ρ (nxt c)); iempintro
    iapply (records_reached m ρ K (nxt c, .bar)); iexact HR
  iintro HO
  -- both neighbours have come: the slots this device will write are its own to fill
  iapply (Rounds.wp_wait_rest_token 𝒱₀ ER (sched m ρ) (c : Thread nD τ) none (κ := K (c, .bar))
      (wpE_semWait_eq 𝒱₀ (c : Thread nD τ) none Set.univ) (Set.mem_univ _) () (O := owedFrom c 0) (W := W)
      (R := 0) (m := 0) (T := ∅) ((by decide : 0 + 2 = 2).trans (expect_bar m ρ c).symm)) $$ [HcB HO HatB]
  · isplitr; · iapply (records_inv m ρ K (c, .bar)); iexact HR
    isplitl [HcB]; · iexact HcB
    isplitl [HO]; · iexact HO
    isplitr; · iapply (mayWait_bar c); iexact HL
    iexact HatB
  iintro ⟨HO, HatB, -, Hpay⟩
  ihave Hn := (round_bar m ρ c) $$ Hpay
  unfold barPay
  icases Hn with ⟨Hn1, Hn2, Hn3⟩
  imod (Rounds.cell_close ER (sched m ρ) (Set.mem_univ (K (c, .bar))) (fun h => h) (R := 0 + 1)
    (sched_later m ρ (kcell (c, .bar)))) $$ [HatB] with HzB
  · isplitr; · iapply (records_inv m ρ K (c, .bar)); iexact HR
    iexact HatB
  -- the operands, and the device's own block into slot 0
  iapply (wp_load 𝒱₀ (c : Thread nD τ) none Set.univ (m := Memref.whole cc0_stg1_0) (Finset.subset_univ _)) $$ HB; iintro HB
  rw [show (Memref.whole cc0_stg1_0 : Memref sig .tc .vmem S512x1024 .bf16).view.readAt (Elt F)
      (Rect.unit (s := S512x1024) ![0, 0] ![512, 1024] inb_S512x1024_S512x1024_0_0).toLoadRect (bBlk m ρ c) = bBlk m ρ c
    from Memref.readAt_unit_zero (Elt F) cc0_stg1_0 off_zero₂ _ _]
  iapply (wp_load 𝒱₀ (c : Thread nD τ) none Set.univ (m := Memref.whole cc0_stg0_0) (Finset.subset_univ _)) $$ HA; iintro HA
  rw [show (Memref.whole cc0_stg0_0 : Memref sig .tc .vmem S1024x512 .bf16).view.readAt (Elt F)
      (Rect.unit (s := S1024x512) ![0, 0] ![1024, 512] inb_S1024x512_S1024x512_0_0).toLoadRect (aBlk m ρ c) = aBlk m ρ c
    from Memref.readAt_unit_zero (Elt F) cc0_stg0_0 off_zero₂ _ _]
  unfold slotAny
  icases Hs0 with ⟨%f0, Hs0⟩
  iapply (wp_load 𝒱₀ (c : Thread nD τ) none Set.univ (m := landM) (slot_load_subset 0)) $$ Hs0; iintro Hs0
  iapply (wp_store 𝒱₀ (c : Thread nD τ) none Set.univ (m := landM) (r := slotR 0) (Mk := Finset.univ)
    (slot_store_subset 0)) $$ Hs0; iintro Hs0
  ihave Hs0 := (own_slot m ρ c f0) $$ Hs0
  -- the three hops
  iapply (wp_hop m ρ K c _ 0 (dev3_eq c) _ (fun _ => rfl) _ (off_eq c 0)) $$ [Hh0 Hs0 Hn1 Hout HO]
  · isplitr; · iexact HR
    isplitr; · iexact HL
    isplitl [Hh0]; · iexact Hh0
    unfold hopPre slotAny
    isplitl [Hs0]; · iexact Hs0
    isplitl [Hn1]; · iexact Hn1
    isplitl [Hout]
    · unfold outFilled; iexists g; isplitr; · ipureintro; exact filled_zero m ρ c g
      iexact Hout
    iexists _; iexact HO
  unfold hopPost
  iintro ⟨Hs0, Hs1, Hout, HO, HzS0, HzR0⟩
  iapply (wp_hop m ρ K c _ 1 (dev4_eq c) _ (fun _ => rfl) _ (off_eq c 1)) $$ [Hh1 Hs1 Hn2 Hout HO]
  · isplitr; · iexact HR
    isplitr; · iexact HL
    isplitl [Hh1]; · iexact Hh1
    unfold hopPre slotAny
    isplitl [Hs1]; · iexact Hs1
    isplitl [Hn2]; · iexact Hn2
    isplitl [Hout]; · iexact Hout
    iexact HO
  unfold hopPost
  iintro ⟨Hs1, Hs2, Hout, HO, HzS1, HzR1⟩
  iapply (wp_hop m ρ K c _ 2 (dev5_eq c) _ (fun _ => rfl) _ (off_eq c 2)) $$ [Hh2 Hs2 Hn3 Hout HO]
  · isplitr; · iexact HR
    isplitr; · iexact HL
    isplitl [Hh2]; · iexact Hh2
    unfold hopPre slotAny
    isplitl [Hs2]; · iexact Hs2
    isplitl [Hn3]; · iexact Hn3
    isplitl [Hout]; · iexact Hout
    iexact HO
  unfold hopPost
  iintro ⟨Hs2, Hs3, Hout, HO, HzS2, HzR2⟩
  -- the last product
  iapply (wp_block m ρ c 3 fullShare _ (fun _ => rfl) _ (off_eq c 3)) $$ [Hs3 Hout]
  · isplitl [Hs3]; · iexact Hs3
    iexact Hout
  iintro ⟨Hs3, Hout⟩
  ihave Hs3 := (slotAt_any c 3 _) $$ Hs3
  unfold runs
  rw [wp_ret]; imodintro
  iapply Hk
  unfold bodyEnd
  isplitl [Hs0 Hs1 Hs2 Hs3]
  · unfold landAny; iapply (slots_join c)
    isplitl [Hs0]; · iexact Hs0
    isplitl [Hs1]; · iexact Hs1
    isplitl [Hs2]; · iexact Hs2
    iexact Hs3
  isplitl [HzB HzS0 HzS1 HzS2 HzR0 HzR1 HzR2]
  · rw [bigSep_cells]
    isplitl [HzB]; · iexact HzB
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · icases HO with ⟨%W', HO⟩; iexists W'; rw [← owedFrom_three c]; iexact HO
  isplitl [HA]; · iexact HA
  isplitl [HB]; · iexact HB
  unfold outFilled
  icases Hout with ⟨%g', %hg', Hout⟩
  have e := filled_four m ρ c g' hg'
  subst e
  iexact Hout

/-! ## The body's obligation to the pipeline -/

/-- What the pipeline hands the body. -/
def handed (c : Dev nD) : sProp 𝕄 :=
  iprop((start m ρ c ∗ landAny c) ∗ (dats m ρ 0 c).owesAt () t0_0.castSucc
    ∗ (∃ d, ∃ f : (cc0_stg0_0 : Ref sig .tc).ty.Contents (Elt F), ⌜f = (dats m ρ 0 c).before (0 : Fin 3) t0_0 d⌝ ∗ staged c cc0_stg0_0 f)
    ∗ (∃ d, ∃ f : (cc0_stg1_0 : Ref sig .tc).ty.Contents (Elt F), ⌜f = (dats m ρ 0 c).before (1 : Fin 3) t0_0 d⌝ ∗ staged c cc0_stg1_0 f)
    ∗ (∃ d, ∃ f : (cc0_stg2_0 : Ref sig .tc).ty.Contents (Elt F), ⌜f = (dats m ρ 0 c).before (2 : Fin 3) t0_0 d⌝ ∗ staged c cc0_stg2_0 f))

/-- What it wants back. -/
def returned (c : Dev nD) : sProp 𝕄 :=
  iprop((landAny c ∗ bigSep Finset.univ fun k : Cell => semVal (kcell (c, k)) 0) ∗ (dats m ρ 0 c).owesAt () t0_0.succ
    ∗ (∃ f : (cc0_stg0_0 : Ref sig .tc).ty.Contents (Elt F), ⌜f = aBlk m ρ c⌝ ∗ staged c cc0_stg0_0 f)
    ∗ (∃ f : (cc0_stg1_0 : Ref sig .tc).ty.Contents (Elt F), ⌜f = bBlk m ρ c⌝ ∗ staged c cc0_stg1_0 f)
    ∗ (∃ f : (cc0_stg2_0 : Ref sig .tc).ty.Contents (Elt F), ⌜f = outAt m ρ c⌝ ∗ staged c cc0_stg2_0 f))

/-- The end of the body is what the pipeline wants back. -/
theorem end_returned (c : Dev nD) : bodyEnd m ρ c ⊢ returned m ρ c := by
  unfold bodyEnd returned Dat.owesAt Pipeline.owesWithin
  rw [show (dats m ρ 0 c).owed t0_0.succ = 0 from rfl]
  iintro ⟨Hl, Hz, ⟨%W, HO⟩, HA, HB, Hout⟩
  isplitl [Hl Hz]; · isplitl [Hl] <;> iassumption
  isplitl [HO]
  · iexists W; isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Hout

theorem before_0 (c : Dev nD) (d) : (dats m ρ 0 c).before (0 : Fin 3) t0_0 d = aBlk m ρ c := by
  unfold Dat.before; rw [if_pos (fetch0_0 t0_0)]; rfl
theorem before_1 (c : Dev nD) (d) : (dats m ρ 0 c).before (1 : Fin 3) t0_0 d = bBlk m ρ c := by
  unfold Dat.before; rw [if_pos (fetch0_1 t0_0)]; rfl

theorem wp_handed (c : Dev nD) : handed m ρ c ⊢ runs c bodyProg fun _ => returned m ρ c := by
  unfold handed start Dat.owesAt Pipeline.owesWithin
  rw [show (dats m ρ 0 c).owed t0_0.castSucc = owed₀ c from rfl]
  iintro ⟨⟨⟨⟨%K, HR⟩, HL, Hb, Hh0, Hh1, Hh2⟩, Hl⟩, ⟨%W, -, HO⟩, ⟨%d0, %f0, %h0, HA⟩, ⟨%d1, %f1, %h1, HB⟩, ⟨%d2, %f2, -, Hout⟩⟩
  rw [before_0] at h0
  rw [before_1] at h1
  subst h0 h1
  iapply (wp_body m ρ K c W f2 fun _ => returned m ρ c) $$ [HR HL Hb Hh0 Hh1 Hh2 Hl HO HA HB Hout]
  · isplitl [HR]; · iexact HR
    isplitl [HL]; · iexact HL
    isplitl [Hb]; · iexact Hb
    isplitl [Hh0]; · iexact Hh0
    isplitl [Hh1]; · iexact Hh1
    isplitl [Hh2]; · iexact Hh2
    isplitl [Hl]; · iexact Hl
    isplitl [HO]; · iexact HO
    isplitl [HA]; · iexact HA
    isplitl [HB] <;> iassumption
  iintro H
  iapply (end_returned m ρ c); iexact H

set_option maxRecDepth 4000 in
/-- The obligation, at the grid's one point. -/
theorem body_obligation (c : Dev nD) : BodyObligation (dats (F := F) m ρ 0 c) (defs₀ (F := F)) 𝒱₀ () Set.univ := fun t => by
  rw [fin_N0 t, bigSep_W0, bigSep_W0]
  simp only [owns_staged]
  exact wp_handed m ρ c

end Cert.GatherProof

end
-- ==== Proof.Launch.lean ====
/-
The launch: from counters at zero to what each device's body starts with.

Everything is said cell by cell.  A cell is seeded with its round's state, a position, a mark that the round is reached,
and a token for each of its duties; all cells' invariants are made at once, and each token goes to the device that pays
the duty.
-/
module

public import Idealize.ShloMosaic.Lib.Pipeline.CollectiveSegs
public import proofs.«01_k».proof.Proof.Body

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ GhostU ℕ

variable (m : (ℓ : Loc nD τ sig) → Buf (Elt F) ℓ) (ρ : Dev nD → PrngReg)

/-! ## The semaphores -/

/-- The kernel's own semaphores: the three send and the three receive. -/
abbrev osem : Fin 6 → SemLoc sig := fun i =>
  match i with
  | 0 => (Cell.snd 0).sem | 1 => (Cell.snd 1).sem | 2 => (Cell.snd 2).sem
  | 3 => (Cell.rcv 0).sem | 4 => (Cell.rcv 1).sem | 5 => (Cell.rcv 2).sem

theorem ownSemFacts : Pipeline.OwnSemFacts cfg0.spec osem := by decide

theorem share_eq (c : Dev nD) (w : Fin cfg0.W) : (dats (F := F) m ρ 0 c).share w = fullShare := by
  unfold Dat.share; split <;> rfl

/-- All counters of a device at zero. -/
def zeros (c : Dev nD) : sProp 𝕄 := bigSep Finset.univ fun k : Cell => semVal (kcell (c, k)) 0

omit [FloatOps F] in
theorem ownSems_eq (c : Dev nD) :
    (Pipeline.ownSems0 (Ix := Unit) (Name := ℕ) (U := GhostU) (Lvl := ℕ) (Val := Elt F) (τ := τ) osem c : sProp 𝕄)
      = iprop(semVal (kcell (c, .snd 0)) 0 ∗ semVal (kcell (c, .snd 1)) 0 ∗ semVal (kcell (c, .snd 2)) 0
          ∗ semVal (kcell (c, .rcv 0)) 0 ∗ semVal (kcell (c, .rcv 1)) 0 ∗ semVal (kcell (c, .rcv 2)) 0) := by
  rw [Pipeline.ownSems0_eq_of_list c osem [0, 1, 2, 3, 4, 5] (by decide) (by decide)]; rfl

omit [FloatOps F] in
theorem unscopedSems_eq (c : Dev nD) : (unscopedSems0 c : sProp 𝕄) = semVal (kcell (c, .bar)) 0 := by
  unfold unscopedSems0; rw [bigSep_eq_bigSepL_of_eq [SemLoc.reg barS] (by decide) (by decide)]; rfl

omit [FloatOps F] in
/-- The barrier's counter and the kernel's own are all the cells' counters. -/
theorem zeros_eq (c : Dev nD) :
    (zeros c : sProp 𝕄) = iprop(unscopedSems0 c
      ∗ Pipeline.ownSems0 (Ix := Unit) (Name := ℕ) (U := GhostU) (Lvl := ℕ) (Val := Elt F) (τ := τ) osem c) := by
  unfold zeros; rw [ownSems_eq, unscopedSems_eq, bigSep_cells]

/-! ## The seeds -/

/-- What a cell is seeded with. -/
def seed (ck : Dev nD × Cell) : sProp 𝕄 :=
  iprop(roundState ER (sched m ρ) (kcell ck) 0 ∗ reached ER (kcell ck) 0 ∗ atPos ER (kcell ck) 0 ∅ 0
    ∗ bigSep Finset.univ fun d : Bool => dutyTok ER (kcell ck) 0 d)

abbrev tokAt (x : (Dev nD × Cell) × Bool) : GSem nD τ sig × ℕ × Bool := (kcell x.1, 0, x.2)

theorem tokAt_injective : Function.Injective tokAt := fun x y h =>
  Prod.ext (kcell_injective (congrArg Prod.fst h)) (congrArg (fun z => z.2.2) h)

def allCells : Finset (GSem nD τ sig) := Finset.univ.map ⟨kcell, kcell_injective⟩
def allToks : Finset (GSem nD τ sig × ℕ × Bool) := Finset.univ.map ⟨tokAt, tokAt_injective⟩

/-- The launch's ghost state: the pipeline's, and the ring's. -/
def u₀ : GhostU :=
  (initOf (Pipeline.cells cfgs cellOf_inj) (Pipeline.launchToks cfgs cellOf_inj), initOf allCells allToks)

/-- Device `c`'s share of it. -/
def dealt (c : Dev nD) : sProp 𝕄 := bigSep Finset.univ fun k : Cell => seed m ρ (c, k)

theorem seeds_fund : BI.own (ER (initOf allCells allToks)) ⊢ (|==> bigSep Finset.univ (dealt m ρ) : sProp 𝕄) := by
  have hcells (Φ : GSem nD τ sig → sProp 𝕄) : bigSep allCells Φ = bigSep Finset.univ fun ck : Dev nD × Cell => Φ (kcell ck) :=
    bigSep_map _
  have htoks : bigSep allToks (fun x => (dutyTok ER x.1 x.2.1 x.2.2 : sProp 𝕄))
      = bigSep Finset.univ fun ck : Dev nD × Cell => bigSep Finset.univ fun d : Bool => dutyTok ER (kcell ck) 0 d :=
    (bigSep_map _).trans (bigSep_univ_prod _)
  have hdealt : (bigSep Finset.univ (dealt m ρ) : sProp 𝕄) = bigSep Finset.univ (seed m ρ) :=
    (bigSep_univ_prod (seed m ρ)).symm
  refine (Rounds.fund ER (sched m ρ) allCells allToks).trans (BI.bupd_mono ?_)
  rw [hdealt, hcells, hcells, hcells, htoks, ← bigSep_sep', ← bigSep_sep', ← bigSep_sep']
  exact BI.Entails.refl _

/-! ## Who pays what -/

/-- Whose cell device `c` pays duty `d` of: the neighbours' barriers, the receive cells of the device after, and its own
    send cells. -/
def payee : Cell → Bool → (Dev nD ≃ Dev nD)
  | .bar, false => ring
  | .bar, true => ring.symm
  | .snd _, _ => Equiv.refl _
  | .rcv _, _ => ring

omit [FloatOps F] in
/-- All tokens, each counted at the device that pays with it. -/
theorem toks_to_payers :
    (bigSep Finset.univ fun ck : Dev nD × Cell => bigSep Finset.univ fun d : Bool => (dutyTok ER (kcell ck) 0 d : sProp 𝕄))
      = bigSep Finset.univ fun c : Dev nD => bigSep Finset.univ fun k : Cell => bigSep Finset.univ fun d : Bool =>
          dutyTok ER (kcell (payee k d c, k)) 0 d := by
  rw [bigSep_univ_prod, bigSep_univ_comm, bigSep_univ_comm fun (c : Dev nD) (k : Cell) =>
    bigSep Finset.univ fun d : Bool => (dutyTok ER (kcell (payee k d c, k)) 0 d : sProp 𝕄)]
  refine bigSep_congr fun k _ => ?_
  rw [bigSep_univ_comm, bigSep_univ_comm fun (c : Dev nD) (d : Bool) =>
    (dutyTok ER (kcell (payee k d c, k)) 0 d : sProp 𝕄)]
  exact bigSep_congr fun d _ => bigSep_univ_equiv (payee k d) _

/-- What is one device's alone: its positions, and the tokens it pays with. -/
def held (c : Dev nD) : sProp 𝕄 :=
  iprop((bigSep Finset.univ fun k : Cell => atPos ER (kcell (c, k)) 0 ∅ 0)
    ∗ bigSep Finset.univ fun k : Cell => bigSep Finset.univ fun d : Bool => dutyTok ER (kcell (payee k d c, k)) 0 d)

/-- What the launch leaves each device with. -/
def settled (c : Dev nD) : sProp 𝕄 := iprop((∃ K, records m ρ K) ∗ held c)

/-- One cell's invariant. -/
theorem cell_open (ck : Dev nD × Cell) :
    iprop(semVal (kcell ck) 0 ∗ seed m ρ ck)
      ⊢ |={Set.univ}=> (iprop((∃ κ : ℕ, cellInv ER (sched m ρ) κ (kcell ck)) ∗ reached ER (kcell ck) 0
          ∗ atPos ER (kcell ck) 0 ∅ 0 ∗ bigSep Finset.univ fun d : Bool => dutyTok ER (kcell ck) 0 d) : sProp 𝕄) := by
  unfold seed
  iintro ⟨Hv, Hst, Hr, Hat, Ht⟩
  imod ((Rounds.body_intro ER (sched m ρ) (kcell ck)).trans inv_alloc) $$ [Hv Hst] with Hi
  · isplitl [Hv] <;> iassumption
  imodintro
  isplitl [Hi]; · iexact Hi
  isplitl [Hr]; · iexact Hr
  isplitl [Hat] <;> iassumption

theorem settled_one (K : Dev nD × Cell → ℕ) (c : Dev nD) : iprop(records m ρ K ∗ held c) ⊢ (settled m ρ c : sProp 𝕄) := by
  unfold settled
  iintro ⟨HR, H⟩
  isplitl [HR]; · iexists K; iexact HR
  iexact H

/-- What holds for good may be given to everyone. -/
theorem settled_all (K : Dev nD × Cell → ℕ) :
    iprop(records m ρ K ∗ bigSep Finset.univ held) ⊢ (bigSep Finset.univ (settled m ρ) : sProp 𝕄) := by
  refine BIBase.Entails.trans (sep_mono_left (BI.bigSep_of_persistent (Finset.univ : Finset (Dev nD)) (records m ρ K))) ?_
  rw [← bigSep_sep']
  exact bigSep_mono fun c _ => settled_one m ρ K c

/-- The cells opened are what the devices are left with. -/
theorem opened_settled :
    (bigSep Finset.univ fun ck : Dev nD × Cell =>
        iprop((∃ κ : ℕ, cellInv ER (sched m ρ) κ (kcell ck)) ∗ reached ER (kcell ck) 0
          ∗ atPos ER (kcell ck) 0 ∅ 0 ∗ bigSep Finset.univ fun d : Bool => dutyTok ER (kcell ck) 0 d) : sProp 𝕄)
      ⊢ bigSep Finset.univ (settled m ρ) := by
  rw [bigSep_sep', bigSep_sep', bigSep_sep', toks_to_payers]
  iintro ⟨HI, HR, Hat, Ht⟩
  ihave HK := (BI.bigSep_exists_pi Finset.univ
    (fun (ck : Dev nD × Cell) (κ : ℕ) => (cellInv ER (sched m ρ) κ (kcell ck) : sProp 𝕄))) $$ HI
  icases HK with ⟨%K, HI⟩
  iapply (settled_all m ρ K)
  isplitl [HI HR]
  · unfold records; isplitl [HI] <;> iassumption
  ihave Hat := (Entails.of_eq (bigSep_univ_prod fun ck : Dev nD × Cell => (atPos ER (kcell ck) 0 ∅ 0 : sProp 𝕄))) $$ Hat
  iapply (Entails.of_eq (bigSep_sep' (M := 𝕄) Finset.univ
    (fun c : Dev nD => bigSep Finset.univ fun k : Cell => atPos ER (kcell (c, k)) 0 ∅ 0)
    (fun c : Dev nD => bigSep Finset.univ fun k : Cell => bigSep Finset.univ fun d : Bool =>
      dutyTok ER (kcell (payee k d c, k)) 0 d)).symm)
  isplitl [Hat] <;> iassumption

/-- The launch's one step for all devices. -/
theorem settle :
    (bigSep Finset.univ fun c => iprop(
        Pipeline.ownSems0 (Ix := Unit) (Name := ℕ) (U := GhostU) (Lvl := ℕ) (Val := Elt F) (τ := τ) osem c
          ∗ unscopedSems0 c ∗ dealt m ρ c) : sProp 𝕄)
      ⊢ |={Set.univ}=> bigSep Finset.univ (settled m ρ) := by
  have hc (c : Dev nD) : iprop(
        Pipeline.ownSems0 (Ix := Unit) (Name := ℕ) (U := GhostU) (Lvl := ℕ) (Val := Elt F) (τ := τ) osem c
          ∗ unscopedSems0 c ∗ dealt m ρ c)
      ⊢ (bigSep Finset.univ fun k : Cell => iprop(semVal (kcell (c, k)) 0 ∗ seed m ρ (c, k)) : sProp 𝕄) := by
    rw [bigSep_sep']
    have hz := zeros_eq (F := F) c
    unfold zeros at hz
    rw [hz]
    iintro ⟨Ho, Hu, Hd⟩
    isplitl [Ho Hu]
    · isplitl [Hu] <;> iassumption
    unfold dealt; iexact Hd
  refine BIBase.Entails.trans (bigSep_mono fun c _ => hc c) ?_
  rw [← bigSep_univ_prod fun ck : Dev nD × Cell => iprop(semVal (kcell ck) 0 ∗ seed m ρ ck)]
  exact (bigSep_mono fun ck _ => cell_open m ρ ck).trans ((bigSep_fupd _ _).trans (BI.fupd_mono (opened_settled m ρ)))

/-! ## The credits of the launch -/

/-- The units that all devices together owe a cell. -/
def dueOf : Cell → ℕ
  | .bar => 2
  | .snd _ => 0
  | .rcv _ => N

theorem tally_cell (a c : Dev nD) (j k : Cell) (n : ℕ) :
    (tallyAt (kcell (a, j)) () n : CellTallies nD τ sig Unit) (kcell (c, k)) () = if c = a ∧ k = j then n else 0 := by
  rw [tallyAt_apply]
  refine if_congr ⟨fun h => ?_, fun h => ⟨by rw [h.1, h.2], rfl⟩⟩ rfl rfl
  have e := kcell_injective h.1
  exact ⟨congrArg Prod.fst e, congrArg Prod.snd e⟩

theorem eq_nxt_iff (c d : Dev nD) : c = nxt d ↔ prv c = d := by revert c d; decide
theorem eq_prv_iff (c d : Dev nD) : c = prv d ↔ nxt c = d := by revert c d; decide

theorem owed_total (c : Dev nD) (k : Cell) : ∑ d : Dev nD, owed₀ d (kcell (c, k)) () = dueOf k := by
  have e (d : Dev nD) : owed₀ d (kcell (c, k)) ()
      = (∑ i : Fin 3, if c = nxt d ∧ k = .rcv i then N else 0) + (if c = nxt d ∧ k = .bar then 1 else 0)
        + (if c = prv d ∧ k = .bar then 1 else 0) := by
    unfold owed₀ owedBar
    rw [Pi.add_apply, Finsupp.add_apply, Pi.add_apply, Finsupp.add_apply, owedFrom_apply, tally_cell, tally_cell]
    congr 2
    rw [Finset.filter_true_of_mem fun i _ => Nat.zero_le _]
    exact Finset.sum_congr rfl fun i _ => tally_cell _ _ _ _ _
  rw [Finset.sum_congr rfl fun d _ => e d]
  simp only [eq_nxt_iff, eq_prv_iff, Finset.sum_add_distrib]
  cases k <;> simp [dueOf, ite_and, Finset.sum_ite_eq']

omit [FloatOps F] in
/-- So at launch each device has its cells' credits. -/
theorem launch_credits (c : Dev nD) :
    (Pipeline.launchCred owed₀ c : sProp 𝕄)
      ⊢ bigSep Finset.univ fun k : Cell => cred (tallyAt (kcell (c, k)) () (dueOf k)) := by
  have e (k : Cell) : tallyOn (kcell (c, k)) (launchCredit (Pipeline.owing owed₀) 0 (kcell (c, k)))
      = (tallyAt (kcell (c, k)) () (dueOf k) : CellTallies nD τ sig Unit) := by
    unfold tallyAt
    refine congrArg _ (Finsupp.ext fun u => ?_)
    rw [Pipeline.launchCredit_owing, Finsupp.single_eq_same, ← owed_total c k]
  unfold Pipeline.launchCred
  refine (bigSep_subset (Finset.subset_univ (Finset.univ.map ⟨Cell.sem, Cell.sem_injective⟩))).trans ?_
  rw [bigSep_map]
  exact bigSep_mono fun k _ => by rw [← e k]; exact BI.Entails.refl _

omit [FloatOps F] in
theorem bigSep_bool (Φ : Bool → sProp 𝕄) : bigSep Finset.univ Φ = iprop(Φ false ∗ Φ true) :=
  bigSep_univ_eq_bigSepL [false, true] (by decide) (by decide) Φ

/-! ## The body's two ends -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ settled m ρ c)
      ⊢ |={Set.univ}=> (iprop(start m ρ c ∗ emp) : sProp 𝕄) := by
  unfold settled held
  iintro ⟨-, HL, Hcr, -, HR, Hat, Ht⟩
  ihave Hc := (launch_credits (F := F) c) $$ Hcr
  ihave Hc := (Entails.of_eq (bigSep_cells (M := 𝕄) _)) $$ Hc
  ihave Hat := (Entails.of_eq (bigSep_cells (M := 𝕄) _)) $$ Hat
  ihave Ht := (Entails.of_eq (bigSep_cells (M := 𝕄) _)) $$ Ht
  simp only [bigSep_bool]
  icases Hc with ⟨HcB, -, -, -, Hc0, Hc1, Hc2⟩
  icases Hat with ⟨HaB, Has0, Has1, Has2, Har0, Har1, Har2⟩
  icases Ht with ⟨⟨HtN, HtP⟩, ⟨Hts0, -⟩, ⟨Hts1, -⟩, ⟨Hts2, -⟩, ⟨Htr0, -⟩, ⟨Htr1, -⟩, ⟨Htr2, -⟩⟩
  imodintro
  unfold start barGhost hopGhost
  isplitl
  · isplitl [HR]; · iexact HR
    isplitl [HL]; · iexact HL
    isplitl [HaB HtN HtP HcB]
    · isplitl [HaB]; · iexact HaB
      isplitl [HtN]; · iexact HtN
      isplitl [HtP]; · iexact HtP
      iexact HcB
    isplitl [Has0 Har0 Hts0 Htr0 Hc0]
    · isplitl [Has0]; · iexact Has0
      isplitl [Har0]; · iexact Har0
      isplitl [Hts0]; · iexact Hts0
      isplitl [Htr0]; · iexact Htr0
      iexact Hc0
    isplitl [Has1 Har1 Hts1 Htr1 Hc1]
    · isplitl [Has1]; · iexact Has1
      isplitl [Har1]; · iexact Har1
      isplitl [Hts1]; · iexact Hts1
      isplitl [Htr1]; · iexact Htr1
      iexact Hc1
    isplitl [Has2]; · iexact Has2
    isplitl [Har2]; · iexact Har2
    isplitl [Hts2]; · iexact Hts2
    isplitl [Htr2]; · iexact Htr2
    iexact Hc2
  · iempintro

theorem phi_start (c : Dev nD) :
    iprop(start m ρ c ∗ Pipeline.prefHeld Pipeline.Prefetch.none c (fun _ => fullShare.right) (fun k => k.elim0)
        ∗ Pipeline.scopedRest cfg0.spec c) ⊢ (dats m ρ 0 c).Φ 0 := by
  rw [show (dats m ρ 0 c).Φ 0 = iprop(start m ρ c ∗ landAny c) from rfl, scopedRest0_eq]
  unfold landAny
  iintro ⟨Hs, -, Hl⟩
  isplitl [Hs] <;> iassumption

theorem phi_end (c : Dev nD) :
    (dats m ρ 0 c).Φ (Fin.last cfg0.N)
      ⊢ iprop(unscopedSems0 c ∗ Pipeline.ownSems0 osem c ∗ Pipeline.scopedRest cfg0.spec c) := by
  rw [show (dats m ρ 0 c).Φ (Fin.last cfg0.N) = iprop(landAny c ∗ zeros c) from rfl, scopedRest0_eq, zeros_eq]
  unfold landAny
  iintro ⟨Hl, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The final contents of a window's array. -/
def finalA (c : Dev nD) (w : Fin cfg0.W) : Buf (Elt F) ((cfg0.win w).arr.view.loc (c : Thread nD τ)) :=
  (dats m ρ 0 c).arrAt w cfg0.N

set_option maxRecDepth 8000 in
/-- From any memory with zero counters, every fair execution of the four kernels ends, with each window's array at its
    final contents and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _)
    (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt m ρ) (G' := settled m ρ) (u₀ := u₀)
    (hu₀ := by
      unfold u₀
      iintro Hu
      ihave H := (ownU_pair _ _) $$ Hu
      icases H with ⟨HP, HX⟩
      imod (seeds_fund m ρ) $$ HX with HG
      imodintro
      isplitl [HP] <;> iassumption)
    (hglob := settle m ρ)
    (hA := fun _ _ => rfl) (hpf := fun _ k => k.elim0)
    (X := start m ρ) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they were, -/
theorem finalA_arg0 (c : Dev nD) : finalA m ρ c (0 : Fin 3) = m ((c : Thread nD τ).loc main_arg0) :=
  (dats (F := F) m ρ 0 c).arrAt_in (0 : Fin 3) rfl _
theorem finalA_arg1 (c : Dev nD) : finalA m ρ c (1 : Fin 3) = m ((c : Thread nD τ).loc main_arg1) :=
  (dats (F := F) m ρ 0 c).arrAt_in (1 : Fin 3) rfl _

/-- and the result's array ends as the body left the staged output: its one block is all of it. -/
theorem finalA_out (c : Dev nD) : finalA m ρ c (2 : Fin 3) = outAt m ρ c := by
  have whole (f) := Memref.read_access_unit_zero (Elt F) main_v1
    (funext fun a => by fin_cases a <;> decide : (fun a => win0_2.index (0 : Fin 1) a * main_v1.ty.shape.size a) = fun _ => 0)
    (fun a => by fin_cases a <;> decide) f
  refine (whole _).symm.trans ?_
  have e : finalA m ρ c (2 : Fin 3)
      = ((cfg0.win (2 : Fin 3)).blk (0 : Fin 1)).view.write (Elt F) ((dats m ρ 0 c).arrAt (2 : Fin 3) 0)
          ((dats m ρ 0 c).after (2 : Fin 3) (0 : Fin 1)) Finset.univ :=
    ((dats m ρ 0 c).arrAt_succ (2 : Fin 3) (0 : Fin 1)).trans
      (if_pos (by decide : (cfg0.win (2 : Fin 3)).flush (0 : Fin 1) = true))
  rw [e]
  exact View.read_write_univ _ _

/-- The run with its values dropped. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono
    (fun _ h => ⟨fun c => ⟨(h.1 c (0 : Fin 3)).trans (finalA_arg0 m ρ c), (h.1 c (1 : Fin 3)).trans (finalA_arg1 m ρ c)⟩, h.2⟩)
    (run_main m ρ)

end Cert.GatherProof

end
-- ==== Proof.Value.lean ====
/-
The value: row `r` of the output is row `r` of `A` times `B`.

At the ideal values a block's product is the plain sum over the contracted index.  Device `d`'s rows of `A` are the rows
`1024 d …` of the whole, and every device has all of `B`, so the four blocks that a device writes are the whole product.
-/
module

public import proofs.«01_k».proof.Proof.Output
public import proofs.«01_k».proof.Proof.Gen.ReferenceIdeal.Run
public import Idealize.ShloMosaic.Lib.Layout
public import Idealize.ShloMosaic.Lib.StackMember
public import Idealize.ShloMosaic.Lib.MatmulPlain
public import Idealize.ShloMosaic.Lib.ValueIdxCore

@[expose] public section

noncomputable section

namespace Cert.GatherProof

open Cert.KernelIdeal Cert.KernelIdeal.Gen
open Idealize.ShloMosaic Idealize.ShloMosaic.ValueIdx
open Idealize.ShloMosaic.TcCoe

section
variable {F : FTy → Type} [FloatOps F] (m : (ℓ : Loc nD τ sig) → Buf (Elt F) ℓ) (ρ : Dev nD → PrngReg)

/-- An operand's one block is its whole array: the left -/
theorem aBlk_eq (c : Dev nD) : aBlk m ρ c = m ((c : Thread nD τ).loc main_arg0) :=
  Memref.read_access_unit_zero (Elt F) main_arg0
    (funext fun a => by fin_cases a <;> decide : (fun a => win0_0.index (0 : Fin 1) a * main_arg0.ty.shape.size a) = fun _ => 0)
    (fun a => by fin_cases a <;> decide) _

/-- and the right. -/
theorem bBlk_eq (c : Dev nD) : bBlk m ρ c = m ((c : Thread nD τ).loc main_arg1) :=
  Memref.read_access_unit_zero (Elt F) main_arg1
    (funext fun a => by fin_cases a <;> decide : (fun a => win0_1.index (0 : Fin 1) a * main_arg1.ty.shape.size a) = fun _ => 0)
    (fun a => by fin_cases a <;> decide) _

end

/-- The product of the whole operands, as the reference computes it. -/
def wholeProd (A : FVec Ideal Cert.ReferenceIdeal.S4096x512 .bf16) (B : FVec Ideal Cert.ReferenceIdeal.S512x1024 .bf16) :
    FVec Ideal Cert.ReferenceIdeal.S4096x1024 .f32 :=
  Host.dotGeneral Cert.ReferenceIdeal.dot_S4096x512_S512x1024_S4096x1024_1_0_0_1_n_n none
    (extf .f32 A Cert.ReferenceIdeal.Facts₀.bitsLt_bf16_f32) (extf .f32 B Cert.ReferenceIdeal.Facts₀.bitsLt_bf16_f32)

/-- An entry of the whole product -/
theorem wholeProd_apply (A : FVec Ideal ⟨2, ![4096, 512]⟩ .bf16) (B : FVec Ideal ⟨2, ![512, 1024]⟩ .bf16)
    (r : Fin 4096) (l : Fin 1024) :
    wholeProd A B (ix2 r l) = ∑ k : Fin 512, (A (ix2 r k) * B (ix2 k l) : EReal) :=
  StackMember.dotGeneral_plain_apply (m := 4096) (n := 1024) (k := 512) none
    (extf .f32 A Cert.ReferenceIdeal.Facts₀.bitsLt_bf16_f32) (extf .f32 B Cert.ReferenceIdeal.Facts₀.bitsLt_bf16_f32) r l

/-- and of a block's. -/
theorem blockProd_apply (a : FVec Ideal ⟨2, ![1024, 512]⟩ .bf16) (b : FVec Ideal ⟨2, ![512, 1024]⟩ .bf16)
    (r : Fin 1024) (l : Fin 1024) :
    blockProd (F := Ideal) a b (ix2 r l) = ∑ k : Fin 512, (a (ix2 r k) * b (ix2 k l) : EReal) := by
  unfold blockProd k0_pay1
  rw [shapeCast_self]
  refine (Ideal.matmul_plain_apply (M := 1024) (K := 512) (N := 1024) none a b
    (constant S1024x1024 .f32 0x00000000#32) r l).trans ?_
  show Ideal.ofBits .f32 0x00000000#32 + _ = _
  rw [Ideal.ofBits_zero_f32, zero_add]

/-- Row `r` of the whole left operand is row `r % 1024` of block `r / 1024`. -/
theorem block_row (A : FVec Ideal ⟨2, ![4096, 512]⟩ .bf16) (i : S4096x1024.Idx) (k : Fin 512) :
    Layout.block ⟨2, ![1024, 512]⟩ ⟨2, ![4096, 512]⟩ 0 4 (rowDev i) A (by decide) (ix2 (rowIdx i 0) k) = A (ix2 (i 0) k) := by
  rw [Layout.block_apply]
  refine congrArg A (funext fun b => Fin.ext ?_)
  rw [Layout.Tiles.idx_val]
  fin_cases b
  · show (i 0).val / 1024 * 1024 + (i 0).val % 1024 = (i 0).val
    omega
  · rfl

/-- From memories that hold the parts of `A` and `B`, what a device writes is the whole product. -/
theorem outAt_eq (m : (ℓ : Loc nD τ sig) → Buf (Elt Ideal) ℓ) (ρ : Dev nD → PrngReg)
    (A : FVec Ideal ⟨2, ![4096, 512]⟩ .bf16) (B : FVec Ideal ⟨2, ![512, 1024]⟩ .bf16)
    (hA : ∀ c : Dev nD, m ((c : Thread nD τ).loc main_arg0) = Layout.block ⟨2, ![1024, 512]⟩ ⟨2, ![4096, 512]⟩ 0 4 c A (by decide))
    (hB : ∀ c : Dev nD, m ((c : Thread nD τ).loc main_arg1) = B) (c : Dev nD) :
    outAt m ρ c = wholeProd A B := by
  funext i
  unfold outAt
  rw [aBlk_eq, bBlk_eq, hA, hB]
  refine (congrArg (blockProd (F := Ideal) _ B) (eq_ix2 (rowIdx i))).trans ((blockProd_apply _ B (rowIdx i 0) (rowIdx i 1)).trans ?_)
  refine Eq.trans ?_ ((wholeProd_apply A B (i 0) (i 1)).symm.trans (congrArg _ (eq_ix2 i).symm))
  exact Finset.sum_congr rfl fun k _ => congrArg₂ (· * ·) (block_row A i k) rfl

end Cert.GatherProof

end
-- ==== Proof.lean ====
/-
The certificate's five claims.

The kernel's run is proved once, over any float values (Proof/Launch.lean).  Each of its two frames is that run with the
values dropped, since the kernel's two texts are the same; the algebraic claim is that run at the ideal values, with the
result's closed form (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent

@[expose] public section

noncomputable section

namespace Cert.Proof

open Idealize.ShloMosaic Idealize.SL.Sem
open Cert.GatherProof

section
variable {F : FTy → Type} [FloatOps F]

/-- The kernel's two texts run the same body, -/
theorem bodies_same : Cert.Kernel.defs₀ (F := F) = Cert.KernelIdeal.defs₀ := by
  refine congrArg Defs.onTc (funext fun l => ?_)
  rcases l with ⟨_ | n, h⟩
  · rfl
  · exact absurd h (Nat.not_lt.2 (Nat.le_add_left _ _))

/-- and so their tables are one. -/
theorem defs_same : Cert.Kernel.defs (F := F) = Cert.KernelIdeal.defs :=
  congrArg (Pipeline.defs Cert.KernelIdeal.pcfgs) bodies_same

end

/-- The kernel as printed: its run is the idealized program's at the bits. -/
theorem frame_kernel : Cert.quiescent_Kernel := by
  intro m ρ _
  rw [defs_same]
  exact run_frame (F := Bits) m ρ

theorem frame_ideal : Cert.quiescent_KernelIdeal := fun m ρ _ => run_frame (F := Ideal) m ρ

theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- At the ideal values every device's result is the reference's. -/
theorem value : Cert.algebraic_KernelIdeal_ReferenceIdeal := fun m ρ m' ρ' _ parts =>
  ⟨wholeProd (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run (Cert.KernelIdeal.defs (F := Ideal)) _ _).mono
      (fun _ h c => ⟨(h.1 c (2 : Fin 3)).trans ((finalA_out m ρ c).trans
          (outAt_eq m ρ _ _ (fun d => (parts d).1) (fun d => (parts d).2) c)),
        (h.1 c (0 : Fin 3)).trans (finalA_arg0 m ρ c), (h.1 c (1 : Fin 3)).trans (finalA_arg1 m ρ c)⟩)
      (run_main (F := Ideal) m ρ),
    (θ_run (Cert.ReferenceIdeal.defs (F := Ideal)) _ _).mono (fun _ h => h 0)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
